-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_finite [hPre_weights_finite : Cert.Pre_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_finite [hPre_weights_finite : Cert.Pre_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_weights_finite [hKernelIdeal : Cert.KernelIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_weights_finite [hReferenceIdeal : Cert.ReferenceIdeal.Facts] [hPre_weights_finite : Cert.Pre_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_m" .f32 0x38638E39#32 ((18432⁻¹ : ℝ) : EReal)

def algebraic_KernelIdeal_ReferenceIdeal_pre_weights_finite [hKernelIdeal : Cert.KernelIdeal.Facts] [hReferenceIdeal : Cert.ReferenceIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_weights_finite : Cert.Pre_weights_finite.Facts),
    quiescent_Kernel (hKernel := hKernel)
    ∧ quiescent_KernelIdeal (hKernelIdeal := hKernelIdeal)
    ∧ quiescent_KernelIdeal_pre_weights_finite (hKernelIdeal := hKernelIdeal) (hPre_weights_finite := hPre_weights_finite)
    ∧ quiescent_ReferenceIdeal (hReferenceIdeal := hReferenceIdeal)
    ∧ quiescent_ReferenceIdeal_pre_weights_finite (hReferenceIdeal := hReferenceIdeal) (hPre_weights_finite := hPre_weights_finite)
    ∧ preserves_Kernel_KernelIdeal
    ∧ algebraic_KernelIdeal_ReferenceIdeal_pre_weights_finite (hKernelIdeal := hKernelIdeal) (hReferenceIdeal := hReferenceIdeal) (hPre_weights_finite := hPre_weights_finite)
-- ==== Pre_weights_finite.lean ====
abbrev S32x512x48x48 : Shape := ⟨4, ![32, 512, 48, 48]⟩
abbrev S1x64x64 : Shape := ⟨3, ![1, 64, 64]⟩
abbrev S1x64x1 : Shape := ⟨3, ![1, 64, 1]⟩
abbrev S_ : Shape := ⟨0, ![]⟩

class Facts : Prop where
  bcast_S_S1x64x64 : S_.BroadcastsInDim S1x64x64 (![] : Fin 0 → Fin S1x64x64.rank)
  reducesTo_S1x64x64_S_d0_1_2 : S1x64x64.ReducesTo [0, 1, 2] S_
  h_S_ : 0 < S_.numel

variable [Facts]

def fn {F : FTy → Type} [FloatOps F] (main_arg0 : FVec F S32x512x48x48 .f32) (main_arg1 : FVec F S1x64x64 .f32) (main_arg2 : FVec F S1x64x1 .f32) : IVec S_ 1 :=
  let main_v0 : FVec F S1x64x64 .f32 := Host.absf main_arg1
  let main_cst : FVec F S_ .f32 := constant S_ .f32 0x7F800000#32
  let main_v1 : FVec F S1x64x64 .f32 := broadcastInDim S1x64x64 ![] bcast_S_S1x64x64 main_cst
  let main_v2 : IVec S1x64x64 1 := cmpf .olt main_v0 main_v1
  let main_c : IVec S_ 1 := constantI S_ 1 1#1
  let main_v3 : IVec S_ 1 := (fun x v => Host.reduce IntOp.andi x v reducesTo_S1x64x64_S_d0_1_2 h_S_) main_v2 main_c
  main_v3
-- ==== Kernel.lean ====
abbrev S32x512x48x48 : Shape := ⟨4, ![32, 512, 48, 48]⟩
abbrev S1x64x64 : Shape := ⟨3, ![1, 64, 64]⟩
abbrev S1x64x1 : Shape := ⟨3, ![1, 64, 1]⟩
abbrev S32x48x48x512 : Shape := ⟨4, ![32, 48, 48, 512]⟩
abbrev S32x2304x512 : Shape := ⟨3, ![32, 2304, 512]⟩
abbrev S64x64 : Shape := ⟨2, ![64, 64]⟩
abbrev S1x64 : Shape := ⟨2, ![1, 64]⟩
abbrev S2x2304x512 : Shape := ⟨3, ![2, 2304, 512]⟩
abbrev S1x2304x512 : Shape := ⟨3, ![1, 2304, 512]⟩
abbrev S2304x512 : Shape := ⟨2, ![2304, 512]⟩
abbrev S512 : Shape := ⟨1, ![512]⟩
abbrev S1x512 : Shape := ⟨2, ![1, 512]⟩
abbrev S64x1 : Shape := ⟨2, ![64, 1]⟩
abbrev S512x512 : Shape := ⟨2, ![512, 512]⟩
abbrev S1 : Shape := ⟨1, ![1]⟩
abbrev S1x1x1 : Shape := ⟨3, ![1, 1, 1]⟩
abbrev S64x128 : Shape := ⟨2, ![64, 128]⟩
abbrev S128x128 : Shape := ⟨2, ![128, 128]⟩
abbrev S512x64 : Shape := ⟨2, ![512, 64]⟩

abbrev nBuf : Space → Nat
  | .hbm => 10
  | .vmem => 6
  | .smem => 0
  | _ => 0

abbrev bufTy : (tb : Table) → Fin (tcTables nBuf tb) → BufTy
  | .hbm, ⟨0, _⟩ => ⟨S32x512x48x48, .f32⟩
  | .hbm, ⟨1, _⟩ => ⟨S1x64x64, .f32⟩
  | .hbm, ⟨2, _⟩ => ⟨S1x64x1, .f32⟩
  | .hbm, ⟨3, _⟩ => ⟨S32x48x48x512, .f32⟩
  | .hbm, ⟨4, _⟩ => ⟨S32x2304x512, .f32⟩
  | .hbm, ⟨5, _⟩ => ⟨S64x64, .f32⟩
  | .hbm, ⟨6, _⟩ => ⟨S1x64, .f32⟩
  | .hbm, ⟨7, _⟩ => ⟨S32x2304x512, .f32⟩
  | .hbm, ⟨8, _⟩ => ⟨S32x48x48x512, .f32⟩
  | .hbm, ⟨9, _⟩ => ⟨S32x512x48x48, .f32⟩
  | .local _ .vmem, ⟨0, _⟩ => ⟨S2x2304x512, .f32⟩
  | .local _ .vmem, ⟨1, _⟩ => ⟨S2x2304x512, .f32⟩
  | .local _ .vmem, ⟨2, _⟩ => ⟨S64x64, .f32⟩
  | .local _ .vmem, ⟨3, _⟩ => ⟨S1x64, .f32⟩
  | .local _ .vmem, ⟨4, _⟩ => ⟨S2x2304x512, .f32⟩
  | .local _ .vmem, ⟨5, _⟩ => ⟨S2x2304x512, .f32⟩
  | _, _ => ⟨S32x512x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2304x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x2304x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_m" => some ((18432⁻¹ : ℝ) : EReal)
  | _ => none
-- ==== ReferenceIdeal.lean ====
abbrev S32x512x48x48 : Shape := ⟨4, ![32, 512, 48, 48]⟩
abbrev S1x64x64 : Shape := ⟨3, ![1, 64, 64]⟩
abbrev S1x64x1 : Shape := ⟨3, ![1, 64, 1]⟩
abbrev S32x8x64x48x48 : Shape := ⟨5, ![32, 8, 64, 48, 48]⟩
abbrev S32x64x8x48x48 : Shape := ⟨5, ![32, 64, 8, 48, 48]⟩
abbrev S32x64x18432 : Shape := ⟨3, ![32, 64, 18432]⟩
abbrev S_ : Shape := ⟨0, ![]⟩
abbrev S32x64 : Shape := ⟨2, ![32, 64]⟩
abbrev S32x64x1 : Shape := ⟨3, ![32, 64, 1]⟩
abbrev S32x18432x64 : Shape := ⟨3, ![32, 18432, 64]⟩
abbrev S32x64x64 : Shape := ⟨3, ![32, 64, 64]⟩
abbrev S64x64 : Shape := ⟨2, ![64, 64]⟩
abbrev S32x4096 : Shape := ⟨2, ![32, 4096]⟩
abbrev S32 : Shape := ⟨1, ![32]⟩
abbrev S32x1x1 : Shape := ⟨3, ![32, 1, 1]⟩
abbrev S64x32x64 : Shape := ⟨3, ![64, 32, 64]⟩

abbrev nBuf : Space → Nat
  | .hbm => 171
  | .vmem => 0
  | .smem => 0
  | _ => 0

abbrev hbmTy0_0 (i : Nat) : BufTy := match i % 128 with
  | 0 => ⟨S32x512x48x48, .f32⟩
  | 1 => ⟨S1x64x64, .f32⟩
  | 2 => ⟨S1x64x1, .f32⟩
  | 3 => ⟨S32x8x64x48x48, .f32⟩
  | 4 => ⟨S32x64x8x48x48, .f32⟩
  | 5 => ⟨S32x64x18432, .f32⟩
  | 6 => ⟨S_, .f32⟩
  | 7 => ⟨S32x64, .f32⟩
  | 8 => ⟨S32x64x1, .f32⟩
  | 9 => ⟨S_, .f32⟩
  | 10 => ⟨S32x64x1, .f32⟩
  | 11 => ⟨S32x64x1, .f32⟩
  | 12 => ⟨S32x64x18432, .f32⟩
  | 13 => ⟨S32x64x18432, .f32⟩
  | 14 => ⟨S32x18432x64, .f32⟩
  | 15 => ⟨S32x64x64, .f32⟩
  | 16 => ⟨S_, .f32⟩
  | 17 => ⟨S32x64x64, .f32⟩
  | 18 => ⟨S32x64x64, .f32⟩
  | 19 => ⟨S64x64, .i32⟩
  | 20 => ⟨S64x64, .i32⟩
  | 21 => ⟨S_, .i32⟩
  | 22 => ⟨S64x64, .i32⟩
  | 23 => ⟨S64x64, .i32⟩
  | 24 => ⟨S64x64, .i1⟩
  | 25 => ⟨S64x64, .f32⟩
  | 26 => ⟨S_, .f32⟩
  | 27 => ⟨S64x64, .f32⟩
  | 28 => ⟨S64x64, .f32⟩
  | 29 => ⟨S1x64x64, .f32⟩
  | 30 => ⟨S32x64x64, .f32⟩
  | 31 => ⟨S32x64x64, .f32⟩
  | 32 => ⟨S32x4096, .f32⟩
  | 33 => ⟨S32x4096, .f32⟩
  | 34 => ⟨S_, .f32⟩
  | 35 => ⟨S32, .f32⟩
  | 36 => ⟨S32, .f32⟩
  | 37 => ⟨S32x1x1, .f32⟩
  | 38 => ⟨S32x64x64, .f32⟩
  | 39 => ⟨S32x64x64, .f32⟩
  | 40 => ⟨S64x64, .i32⟩
  | 41 => ⟨S64x64, .i32⟩
  | 42 => ⟨S_, .i32⟩
  | 43 => ⟨S64x64, .i32⟩
  | 44 => ⟨S64x64, .i32⟩
  | 45 => ⟨S64x64, .i1⟩
  | 46 => ⟨S64x64, .f32⟩
  | 47 => ⟨S1x64x64, .f32⟩
  | 48 => ⟨S32x64x64, .f32⟩
  | 49 => ⟨S_, .f32⟩
  | 50 => ⟨S1x64x64, .f32⟩
  | 51 => ⟨S1x64x64, .f32⟩
  | 52 => ⟨S32x64x64, .f32⟩
  | 53 => ⟨S32x64x64, .f32⟩
  | 54 => ⟨S32x64x64, .f32⟩
  | 55 => ⟨S_, .f32⟩
  | 56 => ⟨S32x64x64, .f32⟩
  | 57 => ⟨S32x64x64, .f32⟩
  | 58 => ⟨S32x64x64, .f32⟩
  | 59 => ⟨S32x64x64, .f32⟩
  | 60 => ⟨S_, .f32⟩
  | 61 => ⟨S1x64x64, .f32⟩
  | 62 => ⟨S1x64x64, .f32⟩
  | 63 => ⟨S32x64x64, .f32⟩
  | 64 => ⟨S32x64x64, .f32⟩
  | 65 => ⟨S32x64x64, .f32⟩
  | 66 => ⟨S_, .f32⟩
  | 67 => ⟨S32x64x64, .f32⟩
  | 68 => ⟨S32x64x64, .f32⟩
  | 69 => ⟨S32x64x64, .f32⟩
  | 70 => ⟨S32x64x64, .f32⟩
  | 71 => ⟨S_, .f32⟩
  | 72 => ⟨S1x64x64, .f32⟩
  | 73 => ⟨S1x64x64, .f32⟩
  | 74 => ⟨S32x64x64, .f32⟩
  | 75 => ⟨S32x64x64, .f32⟩
  | 76 => ⟨S32x64x64, .f32⟩
  | 77 => ⟨S_, .f32⟩
  | 78 => ⟨S32x64x64, .f32⟩
  | 79 => ⟨S32x64x64, .f32⟩
  | 80 => ⟨S32x64x64, .f32⟩
  | 81 => ⟨S32x64x64, .f32⟩
  | 82 => ⟨S_, .f32⟩
  | 83 => ⟨S1x64x64, .f32⟩
  | 84 => ⟨S1x64x64, .f32⟩
  | 85 => ⟨S32x64x64, .f32⟩
  | 86 => ⟨S32x64x64, .f32⟩
  | 87 => ⟨S32x64x64, .f32⟩
  | 88 => ⟨S_, .f32⟩
  | 89 => ⟨S32x64x64, .f32⟩
  | 90 => ⟨S32x64x64, .f32⟩
  | 91 => ⟨S32x64x64, .f32⟩
  | 92 => ⟨S32x64x64, .f32⟩
  | 93 => ⟨S_, .f32⟩
  | 94 => ⟨S1x64x64, .f32⟩
  | 95 => ⟨S1x64x64, .f32⟩
  | 96 => ⟨S32x64x64, .f32⟩
  | 97 => ⟨S32x64x64, .f32⟩
  | 98 => ⟨S32x64x64, .f32⟩
  | 99 => ⟨S_, .f32⟩
  | 100 => ⟨S32x64x64, .f32⟩
  | 101 => ⟨S32x64x64, .f32⟩
  | 102 => ⟨S32x64x64, .f32⟩
  | 103 => ⟨S32x64x64, .f32⟩
  | 104 => ⟨S_, .f32⟩
  | 105 => ⟨S1x64x64, .f32⟩
  | 106 => ⟨S1x64x64, .f32⟩
  | 107 => ⟨S32x64x64, .f32⟩
  | 108 => ⟨S32x64x64, .f32⟩
  | 109 => ⟨S32x64x64, .f32⟩
  | 110 => ⟨S_, .f32⟩
  | 111 => ⟨S32x64x64, .f32⟩
  | 112 => ⟨S32x64x64, .f32⟩
  | 113 => ⟨S32x64x64, .f32⟩
  | 114 => ⟨S32x64x64, .f32⟩
  | 115 => ⟨S_, .f32⟩
  | 116 => ⟨S1x64x64, .f32⟩
  | 117 => ⟨S1x64x64, .f32⟩
  | 118 => ⟨S32x64x64, .f32⟩
  | 119 => ⟨S32x64x64, .f32⟩
  | 120 => ⟨S32x64x64, .f32⟩
  | 121 => ⟨S_, .f32⟩
  | 122 => ⟨S32x64x64, .f32⟩
  | 123 => ⟨S32x64x64, .f32⟩
  | 124 => ⟨S32x64x64, .f32⟩
  | 125 => ⟨S32x64x64, .f32⟩
  | 126 => ⟨S_, .f32⟩
  | 127 => ⟨S1x64x64, .f32⟩
  | _ => ⟨S32x512x48x48, .f32⟩

abbrev hbmTy0_1 (i : Nat) : BufTy := match i % 128 with
  | 0 => ⟨S1x64x64, .f32⟩
  | 1 => ⟨S32x64x64, .f32⟩
  | 2 => ⟨S32x64x64, .f32⟩
  | 3 => ⟨S32x64x64, .f32⟩
  | 4 => ⟨S_, .f32⟩
  | 5 => ⟨S32x64x64, .f32⟩
  | 6 => ⟨S32x64x64, .f32⟩
  | 7 => ⟨S32x64x64, .f32⟩
  | 8 => ⟨S32x64x64, .f32⟩
  | 9 => ⟨S_, .f32⟩
  | 10 => ⟨S1x64x64, .f32⟩
  | 11 => ⟨S1x64x64, .f32⟩
  | 12 => ⟨S32x64x64, .f32⟩
  | 13 => ⟨S32x64x64, .f32⟩
  | 14 => ⟨S32x64x64, .f32⟩
  | 15 => ⟨S_, .f32⟩
  | 16 => ⟨S32x64x64, .f32⟩
  | 17 => ⟨S32x64x64, .f32⟩
  | 18 => ⟨S32x64x64, .f32⟩
  | 19 => ⟨S32x64x64, .f32⟩
  | 20 => ⟨S_, .f32⟩
  | 21 => ⟨S1x64x64, .f32⟩
  | 22 => ⟨S1x64x64, .f32⟩
  | 23 => ⟨S32x64x64, .f32⟩
  | 24 => ⟨S32x64x64, .f32⟩
  | 25 => ⟨S32x64x64, .f32⟩
  | 26 => ⟨S_, .f32⟩
  | 27 => ⟨S32x64x64, .f32⟩
  | 28 => ⟨S32x64x64, .f32⟩
  | 29 => ⟨S32x64x64, .f32⟩
  | 30 => ⟨S32x64x64, .f32⟩
  | 31 => ⟨S32x1x1, .f32⟩
  | 32 => ⟨S32x64x64, .f32⟩
  | 33 => ⟨S32x64x64, .f32⟩
  | 34 => ⟨S64x64, .f32⟩
  | 35 => ⟨S64x32x64, .f32⟩
  | 36 => ⟨S32x64x64, .f32⟩
  | 37 => ⟨S32x64x18432, .f32⟩
  | 38 => ⟨S32x64x18432, .f32⟩
  | 39 => ⟨S32x64x18432, .f32⟩
  | 40 => ⟨S32x64x8x48x48, .f32⟩
  | 41 => ⟨S32x8x64x48x48, .f32⟩
  | 42 => ⟨S32x512x48x48, .f32⟩
  | _ => ⟨S32x512x48x48, .f32⟩

abbrev hbmTy (i : Nat) : BufTy := match i / 128 with
  | 0 => hbmTy0_0 i
  | 1 => hbmTy0_1 i
  | _ => ⟨S32x512x48x48, .f32⟩

abbrev bufTy : (tb : Table) → Fin (tcTables nBuf tb) → BufTy
  | .hbm, ⟨i, _⟩ => hbmTy i
  | _, _ => ⟨S32x512x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_9 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_10 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_11 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_12 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_13 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_14 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_15 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_16 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_17 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_18 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_19 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_20 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_cst_21 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_22 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_23 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩

abbrev nD : Nat := 1
abbrev τ : Topo := Topo.v7x

variable {F : FTy → Type} [FloatOps F]
-- ==== Proof.Frames.lean ====
/-
  The claims that speak of no value: that each program runs to its end, leaves its arguments as they were and its
  counters at zero; and that the idealized kernel is the kernel with its one named constant.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_weights_finite
public import Idealize.ShloMosaic.Lib.Quiescent

@[expose] public section

noncomputable section

namespace Cert.Proof

open Idealize.ShloMosaic Idealize.SL.Sem

/-- The kernel as written, over machine words, runs and leaves its arguments alone. -/
theorem frame_p : Cert.quiescent_Kernel := fun m ρ _ => Cert.Kernel.Gen.frame m ρ

/-- So does the kernel over the extended reals. -/
theorem frame_pi : Cert.quiescent_KernelIdeal := fun m ρ _ => Cert.KernelIdeal.Gen.frame m ρ

/-- The same, where the mixing weights are finite. -/
theorem frame_pi_pre : Cert.quiescent_KernelIdeal_pre_weights_finite := fun m ρ _ => Cert.KernelIdeal.Gen.frame m ρ

/-- The reference runs and leaves its arguments alone; it has no semaphore that could be left raised. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, where the mixing weights are finite. -/
theorem frame_ri_pre : Cert.quiescent_ReferenceIdeal_pre_weights_finite := fun m ρ _ => frame_ri m ρ trivial

/-- The literal `1/18432` of the kernel is the real number `18432⁻¹` rounded once. -/
theorem preserves : Cert.preserves_Kernel_KernelIdeal :=
  IdealRules.named_const.statement Cert.KernelIdeal.κ "inv_m" .f32 0x38638E39#32 ((18432⁻¹ : ℝ) : EReal) rfl

end Cert.Proof

end
-- ==== Proof.Reals.lean ====
/-
  Sums and products of extended reals, as far as the two programs need them: finite ones behave like the real numbers,
  an infinite summand makes the sum infinite, squares are never negative.
-/
module

public import Idealize.ShloMosaic.Lib.Pointwise

@[expose] public section

noncomputable section

namespace Cert.Proof

open Idealize.ShloMosaic

/-! ## The literals of the two programs -/

/-- The regularisation constant, as the real number its pattern denotes. -/
def eps : ℝ := 10995116 * (2 : ℝ) ^ (-40 : ℤ)

/-- It is positive. -/
theorem eps_pos : 0 < eps := by unfold eps; positivity

/-- The pattern of `1e-5` denotes it. -/
theorem bits_eps : Ideal.ofBits .f32 0x3727C5AC#32 = (eps : EReal) := by
  simp [Ideal.ofBits, Ideal.ieee, eps, -EReal.coe_mul]

/-- The pattern of one half. -/
theorem bits_half : Ideal.ofBits .f32 0x3F000000#32 = ((1 / 2 : ℝ) : EReal) := by
  simp [Ideal.ofBits, Ideal.ieee, -EReal.coe_mul]; norm_num

/-- The pattern of three halves. -/
theorem bits_threeHalves : Ideal.ofBits .f32 0x3FC00000#32 = ((3 / 2 : ℝ) : EReal) := by
  simp [Ideal.ofBits, Ideal.ieee, -EReal.coe_mul]; norm_num

/-- The pattern of three. -/
theorem bits_three : Ideal.ofBits .f32 0x40400000#32 = ((3 : ℝ) : EReal) := by
  simp [Ideal.ofBits, Ideal.ieee, -EReal.coe_mul]; norm_num

/-- The pattern of the number of samples per channel. -/
theorem bits_count : Ideal.ofBits .f32 0x46900000#32 = ((18432 : ℝ) : EReal) := by
  simp [Ideal.ofBits, Ideal.ieee, -EReal.coe_mul]; norm_num

/-- The pattern of infinity. -/
theorem bits_top : Ideal.ofBits .f32 0x7F800000#32 = (⊤ : EReal) := by
  simp [Ideal.ofBits, Ideal.ieee]

/-- Small indices are told apart by their words. -/
theorem word_inj {n : ℕ} (hn : n ≤ 512) (i j : Fin n) : BitVec.ofNat 32 (i : ℕ) = BitVec.ofNat 32 (j : ℕ) ↔ i = j := by
  refine ⟨fun e => Fin.ext ?_, fun e => by rw [e]⟩
  have := congrArg BitVec.toNat e
  simp only [BitVec.toNat_ofNat] at this
  omega

/-! ## Finite sums -/

/-- A finite sum of real numbers is taken in the reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A row of a real matrix times a column of another, in the extended reals, is the entry of the product. -/
theorem coe_mul_sum {l m n : Type} [Fintype m] (A : Matrix l m ℝ) (B : Matrix m n ℝ) (i : l) (j : n) :
    ∑ k, ((A i k : ℝ) : EReal) * ((B k j : ℝ) : EReal) = (((A * B) i j : ℝ) : EReal) := by
  rw [Matrix.mul_apply, ← coe_sum]
  exact Finset.sum_congr rfl fun k _ => (EReal.coe_mul _ _).symm

/-- An extended real is a real number. -/
def IsReal (x : EReal) : Prop := ∃ r : ℝ, x = (r : EReal)

/-- What is not a real number is an infinity. -/
theorem not_isReal {x : EReal} (h : ¬ IsReal x) : x = ⊤ ∨ x = ⊥ := by
  induction x with
  | bot => exact Or.inr rfl
  | top => exact Or.inl rfl
  | coe r => exact absurd ⟨r, rfl⟩ h

/-- Plus infinity is not real. -/
theorem not_isReal_top : ¬ IsReal ⊤ := fun ⟨_, h⟩ => EReal.coe_ne_top _ h.symm
/-- Minus infinity is not real. -/
theorem not_isReal_bot : ¬ IsReal ⊥ := fun ⟨_, h⟩ => EReal.coe_ne_bot _ h.symm

/-- A sum is real only where both summands are. -/
theorem isReal_add {x y : EReal} : IsReal (x + y) ↔ IsReal x ∧ IsReal y := by
  constructor
  · intro h
    induction x with
    | bot => simp at h; exact absurd h not_isReal_bot
    | top =>
      induction y with
      | bot => exact absurd h not_isReal_bot
      | top => exact absurd h not_isReal_top
      | coe s => exact absurd h not_isReal_top
    | coe r =>
      induction y with
      | bot => exact absurd h not_isReal_bot
      | top => exact absurd h not_isReal_top
      | coe s => exact ⟨⟨r, rfl⟩, ⟨s, rfl⟩⟩
  · rintro ⟨⟨r, rfl⟩, ⟨s, rfl⟩⟩
    exact ⟨r + s, (EReal.coe_add _ _).symm⟩

/-- A finite sum is real only where every summand is. -/
theorem isReal_sum {ι : Type} [Fintype ι] {f : ι → EReal} : IsReal (∑ i, f i) ↔ ∀ i, IsReal (f i) := by
  classical
  have key (s : Finset ι) : IsReal (∑ i ∈ s, f i) ↔ ∀ i ∈ s, IsReal (f i) := by
    induction s using Finset.induction_on with
    | empty => exact ⟨fun _ _ h => absurd h (Finset.notMem_empty _), fun _ => ⟨0, by simp⟩⟩
    | insert a s ha ih => rw [Finset.sum_insert ha, isReal_add, ih]; simp
  simpa using key Finset.univ

/-- The square of an extended real is not negative. -/
theorem square_nonneg (x : EReal) : 0 ≤ x * x := by
  induction x with
  | bot => simp
  | top => simp
  | coe r => rw [← EReal.coe_mul]; exact EReal.coe_nonneg.2 (mul_self_nonneg r)

/-- The square of an infinity is the upper one. -/
theorem square_top {x : EReal} (h : ¬ IsReal x) : x * x = ⊤ := by
  rcases not_isReal h with rfl | rfl <;> simp

/-- A finite sum without negative summands, one of which is the upper infinity, is that infinity. -/
theorem sum_top {ι : Type} [Fintype ι] {f : ι → EReal} (h0 : ∀ i, 0 ≤ f i) {a : ι} (ha : f a = ⊤) : ∑ i, f i = ⊤ :=
  top_le_iff.1 (ha ▸ Finset.single_le_sum (f := f) (fun i _ => h0 i) (Finset.mem_univ a))

/-- Dividing a real number by a real number other than zero. -/
theorem div_coe_coe (x : ℝ) {y : ℝ} (h : y ≠ 0) : Ideal.div (x : EReal) (y : EReal) = ((x / y : ℝ) : EReal) := by
  rw [Ideal.div_coe h, ← EReal.coe_mul]; congr 1; ring

/-- Dividing by the upper infinity gives zero. -/
theorem div_top (x : EReal) : Ideal.div x ⊤ = 0 := by simp [Ideal.div]

end Cert.Proof

end
-- ==== Proof.Stats.lean ====
/-
  The statistics of one image, by the formulas of either program, and why they lead to the same whitening.

  The kernel takes the covariance as the mean of the products less the product of the means; the reference centres the
  samples first. Where every sample is a real number the two agree (`cov_eq`). Where one sample is infinite both
  Frobenius norms are infinite, so that either program divides by infinity and whitens by the zero matrix.
  `stats` states what the two programs have in common in both cases.
-/
module

public import proofs.«01_k».proof.Proof.Reals

@[expose] public section

noncomputable section

namespace Cert.Proof

open Idealize.ShloMosaic

/-- Where a sample of a channel group lies: which of the eight channels of the group, and which pixel. -/
abbrev Place := Fin 8 × Fin 2304

/-- There are 18432 samples in a channel group. -/
theorem card_place : ((Finset.univ : Finset Place).card : ℝ) = 18432 := by
  rw [Finset.card_univ, Fintype.card_prod, Fintype.card_fin, Fintype.card_fin]; norm_num

/-- The regularised diagonal. -/
def ridge (i j : Fin 64) : ℝ := if i = j then eps else 0

section
variable (x : Place → Fin 64 → EReal)

/-- The mean of a group as the kernel takes it. -/
def kmean (g : Fin 64) : EReal := (∑ s, x s g) * ((18432⁻¹ : ℝ) : EReal)

/-- The covariance as the kernel takes it. -/
def kcov (i j : Fin 64) : EReal :=
  (∑ s, x s i * x s j) * ((18432⁻¹ : ℝ) : EReal) - kmean x i * kmean x j + (ridge i j : EReal)

/-- The Frobenius norm of the kernel's covariance. -/
def knorm : EReal := Ideal.sqrt (∑ i, ∑ j, kcov x i j * kcov x i j)

/-- The mean of a group as the reference takes it. -/
def rmean (g : Fin 64) : EReal := Ideal.div (∑ s, x s g) ((18432 : ℝ) : EReal)

/-- The covariance as the reference takes it. -/
def rcov (i j : Fin 64) : EReal :=
  Ideal.div (∑ s, (x s i - rmean x i) * (x s j - rmean x j)) ((18432 : ℝ) : EReal) + (ridge i j : EReal)

/-- The Frobenius norm of the reference's covariance. -/
def rnorm : EReal := Ideal.sqrt (∑ i, ∑ j, rcov x i j * rcov x i j)

/-- The two means are one number. -/
theorem mean_eq (g : Fin 64) : kmean x g = rmean x g := by
  rw [kmean, rmean, Ideal.div_coe (by norm_num)]; norm_num

end

/-! ## Where every sample is real -/

section
variable (a : Place → Fin 64 → ℝ)

/-- The mean of a group of real samples. -/
def mean (g : Fin 64) : ℝ := (∑ s, a s g) / 18432

/-- The covariance of real samples, centred first. -/
def cov (i j : Fin 64) : ℝ := (∑ s, (a s i - mean a i) * (a s j - mean a j)) / 18432 + ridge i j

/-- The reference's mean of real samples is their mean. -/
theorem rmean_coe (g : Fin 64) : rmean (fun s g => (a s g : EReal)) g = (mean a g : EReal) := by
  rw [rmean, coe_sum, div_coe_coe _ (by norm_num), mean]

/-- The kernel's mean of real samples is their mean. -/
theorem kmean_coe (g : Fin 64) : kmean (fun s g => (a s g : EReal)) g = (mean a g : EReal) := by
  rw [mean_eq, rmean_coe]

/-- Centring first, or subtracting the product of the means afterwards: the same covariance. -/
theorem cov_eq (i j : Fin 64) :
    cov a i j = (∑ s, a s i * a s j) * 18432⁻¹ - mean a i * mean a j + ridge i j := by
  have h : ∑ s, (a s i - mean a i) * (a s j - mean a j)
      = ∑ s, a s i * a s j - mean a j * ∑ s, a s i - mean a i * ∑ s, a s j + 18432 * (mean a i * mean a j) := by
    rw [← card_place, ← nsmul_eq_mul, ← Finset.sum_const, Finset.mul_sum, Finset.mul_sum, ← Finset.sum_sub_distrib,
      ← Finset.sum_sub_distrib, ← Finset.sum_add_distrib]
    exact Finset.sum_congr rfl fun s _ => by ring
  have hi : ∑ s, a s i = 18432 * mean a i := by rw [mean]; ring
  have hj : ∑ s, a s j = 18432 * mean a j := by rw [mean]; ring
  rw [cov, h, hi, hj]
  ring

/-- The reference's covariance of real samples. -/
theorem rcov_coe (i j : Fin 64) : rcov (fun s g => (a s g : EReal)) i j = (cov a i j : EReal) := by
  simp only [rcov, rmean_coe, ← EReal.coe_sub, ← EReal.coe_mul]
  rw [coe_sum, div_coe_coe _ (by norm_num), ← EReal.coe_add, cov]

/-- The kernel's covariance of real samples. -/
theorem kcov_coe (i j : Fin 64) : kcov (fun s g => (a s g : EReal)) i j = (cov a i j : EReal) := by
  simp only [kcov, kmean_coe, ← EReal.coe_mul]
  rw [coe_sum, ← EReal.coe_mul, ← EReal.coe_sub, ← EReal.coe_add, cov_eq]

/-- The sum of the squares of the covariance. -/
def covSq : ℝ := ∑ i, ∑ j, cov a i j * cov a i j

/-- It is positive, because the regularisation keeps the diagonal away from zero. -/
theorem covSq_pos : 0 < covSq a := by
  have h0 : 0 < cov a 0 0 := by
    refine add_pos_of_nonneg_of_pos (div_nonneg (Finset.sum_nonneg fun s _ => mul_self_nonneg _) (by norm_num)) ?_
    simpa [ridge] using eps_pos
  refine Finset.sum_pos' (fun i _ => Finset.sum_nonneg fun j _ => mul_self_nonneg _)
    ⟨0, Finset.mem_univ _, Finset.sum_pos' (fun j _ => mul_self_nonneg _) ⟨0, Finset.mem_univ _, mul_pos h0 h0⟩⟩

/-- The Frobenius norm of the covariance of real samples. -/
def norm : ℝ := Real.sqrt (covSq a)

/-- It is positive. -/
theorem norm_pos : 0 < norm a := Real.sqrt_pos.2 (covSq_pos a)

/-- The kernel's norm of real samples. -/
theorem knorm_coe : knorm (fun s g => (a s g : EReal)) = (norm a : EReal) := by
  simp only [knorm, kcov_coe, ← EReal.coe_mul, coe_sum]
  rw [← covSq, Ideal.sqrt_coe, if_neg (not_lt.2 (covSq_pos a).le)]; rfl

/-- The reference's norm of real samples. -/
theorem rnorm_coe : rnorm (fun s g => (a s g : EReal)) = (norm a : EReal) := by
  simp only [rnorm, rcov_coe, ← EReal.coe_mul, coe_sum]
  rw [← covSq, Ideal.sqrt_coe, if_neg (not_lt.2 (covSq_pos a).le)]; rfl

end

/-! ## Where a sample is infinite -/

section
variable {x : Place → Fin 64 → EReal} {s₀ : Place} {g : Fin 64}

/-- Multiplying an infinity by a positive real number leaves an infinity. -/
theorem not_isReal_mul {y : EReal} {r : ℝ} (hr : 0 < r) (h : ¬ IsReal y) : ¬ IsReal (y * (r : EReal)) := by
  rcases not_isReal h with rfl | rfl
  · rw [EReal.top_mul_coe_of_pos hr]; exact not_isReal_top
  · rw [EReal.bot_mul_coe_of_pos hr]; exact not_isReal_bot

/-- The mean of a group with an infinite sample is infinite. -/
theorem kmean_inf (h : ¬ IsReal (x s₀ g)) : ¬ IsReal (kmean x g) :=
  not_isReal_mul (by norm_num) fun hs => h (isReal_sum.1 hs s₀)

/-- A difference whose second term is infinite is infinite. -/
theorem not_isReal_sub {y z : EReal} (h : ¬ IsReal z) : ¬ IsReal (y - z) := fun hs =>
  h (by
    obtain ⟨r, hr⟩ := (isReal_add.1 (sub_eq_add_neg y z ▸ hs)).2
    exact ⟨-r, by rw [EReal.coe_neg, ← hr, neg_neg]⟩)

/-- A sum whose first term is infinite is infinite. -/
theorem not_isReal_add {y z : EReal} (h : ¬ IsReal y) : ¬ IsReal (y + z) := fun hs => h (isReal_add.1 hs).1

/-- The kernel's variance of such a group is infinite. -/
theorem kcov_inf (h : ¬ IsReal (x s₀ g)) : ¬ IsReal (kcov x g g) :=
  not_isReal_add (not_isReal_sub (by rw [square_top (kmean_inf h)]; exact not_isReal_top))

/-- The reference's variance of such a group is infinite. -/
theorem rcov_inf (h : ¬ IsReal (x s₀ g)) : ¬ IsReal (rcov x g g) := by
  refine not_isReal_add ?_
  rw [sum_top (f := fun s => (x s g - rmean x g) * (x s g - rmean x g)) (a := s₀) (fun s => square_nonneg _)
    (square_top (not_isReal_sub (mean_eq x g ▸ kmean_inf h))), Ideal.div_coe (by norm_num)]
  exact not_isReal_mul (by norm_num) not_isReal_top

/-- The Frobenius norm of a matrix with an infinite entry is the upper infinity. -/
theorem sqrt_sum_top {f : Fin 64 → Fin 64 → EReal} (h : ¬ IsReal (f g g)) :
    Ideal.sqrt (∑ i, ∑ j, f i j * f i j) = ⊤ := by
  rw [sum_top (a := g) (fun i => Finset.sum_nonneg fun j _ => square_nonneg _)
    (sum_top (a := g) (fun j => square_nonneg _) (square_top h))]
  rfl

end

/-! ## Both cases -/

/-- What the two programs have in common on one image: a real matrix `Y` that either takes for the covariance over its
    norm, and a real number `r` that either takes for the inverse square root of the norm; `r` is zero unless every
    sample is real. -/
theorem stats (x : Place → Fin 64 → EReal) : ∃ (Y : Matrix (Fin 64) (Fin 64) ℝ) (r : ℝ),
    (∀ i j, kcov x i j * Ideal.div 1 (knorm x) = (Y i j : EReal))
    ∧ (∀ i j, Ideal.div (rcov x i j) (rnorm x) = (Y i j : EReal))
    ∧ Ideal.rsqrt (knorm x) = (r : EReal)
    ∧ (∀ z : ℝ, Ideal.div (z : EReal) (Ideal.sqrt (rnorm x)) = ((z * r : ℝ) : EReal))
    ∧ (r = 0 ∨ ∃ a : Place → Fin 64 → ℝ, x = fun s g => (a s g : EReal)) := by
  by_cases hx : ∀ s g, IsReal (x s g)
  · choose a ha using hx
    have hx : x = fun s g => (a s g : EReal) := by funext s g; exact ha s g
    have hn := norm_pos a
    refine ⟨fun i j => cov a i j / norm a, (Real.sqrt (norm a))⁻¹, ?_, ?_, ?_, ?_, Or.inr ⟨a, hx⟩⟩ <;> subst hx
    · intro i j
      rw [kcov_coe, knorm_coe, ← EReal.coe_one, div_coe_coe _ hn.ne', ← EReal.coe_mul]
      congr 1; ring
    · intro i j
      rw [rcov_coe, rnorm_coe, div_coe_coe _ hn.ne']
    · rw [knorm_coe, Ideal.rsqrt_coe, if_neg (not_lt.2 hn.le), if_neg hn.ne']
    · intro z
      rw [rnorm_coe, Ideal.sqrt_coe, if_neg (not_lt.2 hn.le), div_coe_coe _ (Real.sqrt_pos.2 hn).ne', div_eq_mul_inv]
  · obtain ⟨s₀, hx⟩ := not_forall.1 hx
    obtain ⟨g, h⟩ := not_forall.1 hx
    have hk : knorm x = ⊤ := sqrt_sum_top (kcov_inf h)
    have hr : rnorm x = ⊤ := sqrt_sum_top (rcov_inf h)
    refine ⟨0, 0, ?_, ?_, ?_, ?_, Or.inl rfl⟩
    · intro i j; rw [hk, div_top]; simp
    · intro i j; rw [hr, div_top]; simp
    · rw [hk]; rfl
    · intro z; rw [hr, show Ideal.sqrt ⊤ = ⊤ from rfl, div_top]; simp

/-- Whitening by a real matrix `A` that is zero unless every sample is real: the kernel applies `A` to the samples and
    puts the mean into the bias, the reference centres the samples first. The bias may be anything. -/
theorem whiten (x : Place → Fin 64 → EReal) (A : Matrix (Fin 64) (Fin 64) ℝ) (b : EReal)
    (h : A = 0 ∨ ∃ a : Place → Fin 64 → ℝ, x = fun s g => (a s g : EReal)) (s : Place) (g : Fin 64) :
    ∑ j, x s j * (A g j : EReal) + (b - ∑ j, (A g j : EReal) * kmean x j)
      = ∑ j, (A g j : EReal) * (x s j - rmean x j) + b := by
  rcases h with rfl | ⟨a, rfl⟩
  · simp
  · simp only [kmean_coe, rmean_coe, ← EReal.coe_sub, ← EReal.coe_mul, coe_sum]
    rw [sub_eq_add_neg, ← EReal.coe_neg, add_comm b, ← add_assoc, ← EReal.coe_add]
    congr 2
    rw [← sub_eq_add_neg, ← Finset.sum_sub_distrib]
    exact Finset.sum_congr rfl fun j _ => by ring

end Cert.Proof

end
-- ==== Proof.KernelStats.lean ====
/-
  What the kernel's body computes first, for one image: the channel means, the covariance, its Frobenius norm.
-/
module

public import proofs.«01_k».proof.Proof.Stats
public import proofs.«01_k».proof.Proof.Gen.KernelIdeal.Skeleton

@[expose] public section

set_option maxRecDepth 16384

noncomputable section

namespace Cert.Proof

open Idealize.ShloMosaic Idealize.ShloMosaic.TcCoe Idealize.SL.Sem
open Cert.KernelIdeal Cert.KernelIdeal.Gen

/-- The samples of one image as the kernel holds them: pixels by channels, channel `64 k + g` in group `g`. -/
def samples (X : FVec Ideal S2304x512 .f32) : Place → Fin 64 → EReal :=
  fun s g => X (ix2 s.2 ⟨s.1 * 64 + g, by omega⟩)

/-- The named constant of the kernel is the real number `18432⁻¹`. -/
theorem inv_m : (Named.named (F := Ideal) κ "inv_m" 0x38638E39#32 : Ideal .f32) = ((18432⁻¹ : ℝ) : EReal) :=
  IdealRules.named_const.ideal_named_scalar _ _ _ _ rfl

/-- A sum over the places of a group, written out channel by channel. -/
theorem sum_place (f : Fin 8 → Fin 2304 → EReal) :
    ∑ p, f 0 p + ∑ p, f 1 p + ∑ p, f 2 p + ∑ p, f 3 p + ∑ p, f 4 p + ∑ p, f 5 p + ∑ p, f 6 p + ∑ p, f 7 p
      = ∑ s : Place, f s.1 s.2 := by
  rw [Fintype.sum_prod_type, Fin.sum_univ_eight]

/-- The bit that two words agree, as a number. -/
theorem agree_word (u v : BitVec 32) :
    FloatOps.sitofp (F := Ideal) .f32 (BitVec.setWidth 32 (IntOp.cmpi .eq u v)) = (((if u = v then 1 else 0 : ℝ)) : EReal) := by
  by_cases h : u = v
  · subst h; simp [IntOp.cmpi, FloatOps.sitofp]
  · simp [IntOp.cmpi, FloatOps.sitofp, beq_eq_false_iff_ne.2 h, h]

/-- The bit that two small indices agree, as a number. -/
theorem agree_bit {n : ℕ} (hn : n ≤ 512) (i j : Fin n) :
    FloatOps.sitofp (F := Ideal) .f32 (BitVec.setWidth 32 (IntOp.cmpi .eq (BitVec.ofNat 32 i) (BitVec.ofNat 32 j)))
      = (((if i = j then 1 else 0 : ℝ)) : EReal) := by
  simp only [agree_word, word_inj hn]

/-- The kernel's channel mean. -/
theorem mean_read (X : FVec Ideal S2304x512 .f32) (g : Fin 64) :
    k0_pay9 (F := Ideal) X (ix2 0 g) = kmean (samples X) g := by
  pointwise [k0_pay9]
  rw [inv_m, kmean]
  refine congrArg (· * _) (Eq.trans ?_ (sum_place fun k p => X (ix2 p ⟨k * 64 + g, by omega⟩)))
  simp

/-- The kernel's covariance. -/
theorem cov_read (X : FVec Ideal S2304x512 .f32) (i j : Fin 64) :
    k0_pay13 (F := Ideal) k0_pay11 (k0_pay12 X) (Scalar.ofBits .f32 0x3727C5AC#32) (ix2 i j) = kcov (samples X) i j := by
  pointwise [k0_pay13, k0_pay11, k0_pay12, k0_pay10]
  rw [inv_m, mean_read, mean_read, agree_bit (by norm_num), bits_eps, ← EReal.coe_mul, kcov, mul_ite, mul_one, mul_zero]
  refine congrArg (· + _) (congrArg (· - _) (congrArg (· * _) (Eq.trans ?_ (sum_place fun k p =>
    X (ix2 p ⟨k * 64 + i, by omega⟩) * X (ix2 p ⟨k * 64 + j, by omega⟩)))))
  simp

/-- The Frobenius norm of the kernel's covariance. -/
theorem norm_read (X : FVec Ideal S2304x512 .f32) :
    k0_pay15 (F := Ideal) k0_pay11 (k0_pay12 X) (Scalar.ofBits .f32 0x3727C5AC#32) = knorm (samples X) := by
  unfold k0_pay15
  pointwise []
  refine congrArg Ideal.sqrt (Finset.sum_congr rfl fun i _ => Finset.sum_congr rfl fun j _ => ?_)
  exact congrArg₂ (· * ·) (cov_read X i j) (cov_read X i j)

end Cert.Proof

end
-- ==== Proof.Newton.lean ====
/-
  The coupled Newton iteration for the inverse square root of a matrix, over the reals.

  Both programs run it ten times. The reference runs it on one 64 by 64 matrix per image; the kernel runs it on a
  128 by 128 matrix that carries two images on its diagonal. `newton_pair` says that the second is the first, twice.
-/
module

public import Idealize.ShloMosaic.Lib.Pointwise

@[expose] public section

noncomputable section

namespace Cert.Proof

open Matrix

section
variable {ι : Type} [Fintype ι] [DecidableEq ι]

/-- The correction factor of one step, from the two running matrices. -/
def corr (Y Z : Matrix ι ι ℝ) : Matrix ι ι ℝ := (3 / 2 : ℝ) • 1 - (1 / 2 : ℝ) • (Z * Y)

/-- The two running matrices after `k` steps from `Y` and the identity. -/
def newton (Y : Matrix ι ι ℝ) : ℕ → Matrix ι ι ℝ × Matrix ι ι ℝ
  | 0 => (Y, 1)
  | k + 1 => ((newton Y k).1 * corr (newton Y k).1 (newton Y k).2, corr (newton Y k).1 (newton Y k).2 * (newton Y k).2)

/-- The second running matrix after ten steps, which approximates the inverse square root. -/
def invRoot (Y : Matrix ι ι ℝ) : Matrix ι ι ℝ := (newton Y 10).2

/-- The map from a sample to the result: the weights after the inverse root times the scalar `r`. -/
def mapOf (W Y : Matrix ι ι ℝ) (r : ℝ) : Matrix ι ι ℝ := fun i j => ∑ k, W i k * (invRoot Y k j * r)

/-- The correction factor as the reference groups it: half of three times the identity less the product. -/
theorem corr_eq (Y Z : Matrix ι ι ℝ) (i j : ι) :
    corr Y Z i j = 1 / 2 * (3 * (1 : Matrix ι ι ℝ) i j - (Z * Y) i j) := by
  simp only [corr, Matrix.sub_apply, Matrix.smul_apply, smul_eq_mul]
  ring

end

/-- Two 64 by 64 matrices on the diagonal of a 128 by 128 matrix that is zero elsewhere. -/
def pair (A B : Matrix (Fin 64) (Fin 64) ℝ) : Matrix (Fin 128) (Fin 128) ℝ :=
  (Matrix.fromBlocks A 0 0 B).submatrix (finSumFinEquiv (m := 64) (n := 64)).symm (finSumFinEquiv (m := 64) (n := 64)).symm

/-- Products of paired matrices are taken one by one. -/
theorem pair_mul (A B C D : Matrix (Fin 64) (Fin 64) ℝ) : pair A B * pair C D = pair (A * C) (B * D) := by
  simp [pair, Matrix.submatrix_mul_equiv, Matrix.fromBlocks_multiply]

/-- The identity pairs with itself. -/
theorem pair_one : pair 1 1 = 1 := by simp [pair]

/-- The correction factor of paired matrices is taken one by one. -/
theorem pair_corr (A B C D : Matrix (Fin 64) (Fin 64) ℝ) :
    corr (pair A B) (pair C D) = pair (corr A C) (corr B D) := by
  rw [corr, pair_mul, ← pair_one]
  ext i j
  simp only [pair, corr, Matrix.sub_apply, Matrix.smul_apply, Matrix.submatrix_apply, smul_eq_mul]
  rcases (finSumFinEquiv (m := 64) (n := 64)).symm i with a | a <;>
    rcases (finSumFinEquiv (m := 64) (n := 64)).symm j with b | b <;> simp

/-- The iteration on paired matrices is the iteration on each. -/
theorem newton_pair (A B : Matrix (Fin 64) (Fin 64) ℝ) (k : ℕ) :
    newton (pair A B) k = (pair (newton A k).1 (newton B k).1, pair (newton A k).2 (newton B k).2) := by
  induction k with
  | zero => simp [newton, pair_one]
  | succ k ih => simp only [newton, ih, pair_corr, pair_mul]

/-- So the inverse root of paired matrices is taken one by one. -/
theorem invRoot_pair (A B : Matrix (Fin 64) (Fin 64) ℝ) : invRoot (pair A B) = pair (invRoot A) (invRoot B) :=
  congrArg Prod.snd (newton_pair A B 10)

/-- A paired matrix read in its upper left quarter. -/
theorem pair_upper (A B : Matrix (Fin 64) (Fin 64) ℝ) (i j : Fin 64) :
    pair A B ⟨i, by omega⟩ ⟨j, by omega⟩ = A i j := by
  have h (i : Fin 64) : (finSumFinEquiv (m := 64) (n := 64)).symm ⟨i, by omega⟩ = Sum.inl i := by
    rw [Equiv.symm_apply_eq]; rfl
  simp only [pair, Matrix.submatrix_apply, h, Matrix.fromBlocks_apply₁₁]

/-- A paired matrix read in its lower right quarter. -/
theorem pair_lower (A B : Matrix (Fin 64) (Fin 64) ℝ) (i j : Fin 64) :
    pair A B ⟨64 + i, by omega⟩ ⟨64 + j, by omega⟩ = B i j := by
  have h (i : Fin 64) : (finSumFinEquiv (m := 64) (n := 64)).symm ⟨64 + i, by omega⟩ = Sum.inr i := by
    rw [Equiv.symm_apply_eq]; rfl
  simp only [pair, Matrix.submatrix_apply, h, Matrix.fromBlocks_apply₂₂]

/-- A paired matrix read at any place: one of the two matrices on the diagonal, and zero elsewhere. -/
theorem pair_apply (A B : Matrix (Fin 64) (Fin 64) ℝ) (i j : Fin 128) :
    pair A B i j = if hi : (i : ℕ) < 64 then (if hj : (j : ℕ) < 64 then A ⟨i, hi⟩ ⟨j, hj⟩ else 0)
      else (if hj : (j : ℕ) < 64 then 0 else B ⟨i - 64, by omega⟩ ⟨j - 64, by omega⟩) := by
  have h (i : Fin 128) : (finSumFinEquiv (m := 64) (n := 64)).symm i =
      if hi : (i : ℕ) < 64 then Sum.inl ⟨i, hi⟩ else Sum.inr ⟨i - 64, by omega⟩ := by
    rw [Equiv.symm_apply_eq]
    split
    · rfl
    · exact Fin.ext (show (i : ℕ) = 64 + (i - 64) by omega)
  simp only [pair, Matrix.submatrix_apply, h]
  split <;> split <;> simp

end Cert.Proof

end
-- ==== Proof.KernelNewton.lean ====
/-
  The kernel's ten Newton steps on the 128 by 128 matrix that carries two images.
-/
module

public import proofs.«01_k».proof.Proof.KernelStats
public import proofs.«01_k».proof.Proof.Newton

@[expose] public section

set_option maxRecDepth 16384

noncomputable section

namespace Cert.Proof

open Idealize.ShloMosaic Idealize.ShloMosaic.TcCoe Idealize.SL.Sem
open Cert.KernelIdeal Cert.KernelIdeal.Gen

/-- An array of 128 by 128 holds a real matrix. -/
def Holds (V : FVec Ideal S128x128 .f32) (B : Matrix (Fin 128) (Fin 128) ℝ) : Prop :=
  ∀ i j : Fin 128, V (ix2 i j) = (B i j : EReal)

/-- The product of two arrays. -/
abbrev mm (U V : FVec Ideal S128x128 .f32) : FVec Ideal S128x128 .f32 :=
  matmul dot_S128x128_S128x128_S128x128_1_0_0_1_n_n none U V (constant S128x128 .f32 0x00000000#32)

/-- The correction factor, as the kernel writes it. -/
abbrev factor (Y Z : FVec Ideal S128x128 .f32) : FVec Ideal S128x128 .f32 :=
  subf (mulf (broadcast S128x128 (Scalar.ofBits .f32 0x3FC00000#32)) (k0_pay17 (F := Ideal)))
    (mulf (broadcast S128x128 (Scalar.ofBits .f32 0x3F000000#32)) (mm Z Y))

/-- The product of two arrays holds the product of the matrices. -/
theorem holds_mm {U V : FVec Ideal S128x128 .f32} {A B : Matrix (Fin 128) (Fin 128) ℝ} (hU : Holds U A) (hV : Holds V B) :
    Holds (mm U V) (A * B) := fun i j => by
  pointwise [mm]
  simp only [hU i, hV _ j, zero_add]
  exact coe_mul_sum A B i j

/-- The kernel's identity array holds the identity. -/
theorem holds_one : Holds (k0_pay17 (F := Ideal)) 1 := fun i j => by
  pointwise [k0_pay17]
  rw [agree_bit (by norm_num), Matrix.one_apply]

/-- The correction factor holds the correction factor. -/
theorem holds_factor {Y Z : FVec Ideal S128x128 .f32} {A B : Matrix (Fin 128) (Fin 128) ℝ} (hY : Holds Y A) (hZ : Holds Z B) :
    Holds (factor Y Z) (corr A B) := fun i j => by
  have h1 := holds_one i j
  have h2 := holds_mm hZ hY i j
  unfold factor
  generalize mm Z Y = P at h2 ⊢
  generalize k0_pay17 (F := Ideal) = E at h1 ⊢
  pointwise []
  rw [h1, h2, bits_half, bits_threeHalves, ← EReal.coe_mul, ← EReal.coe_mul, ← EReal.coe_sub]
  simp [corr]

/-- Two arrays hold the running matrices after `k` steps from `B`. -/
def After (B : Matrix (Fin 128) (Fin 128) ℝ) (k : ℕ) (Y Z : FVec Ideal S128x128 .f32) : Prop :=
  Holds Y (newton B k).1 ∧ Holds Z (newton B k).2

/-- One step of the kernel is one step of the iteration. -/
theorem After.step {B : Matrix (Fin 128) (Fin 128) ℝ} {k : ℕ} {Y Z : FVec Ideal S128x128 .f32} (h : After B k Y Z) :
    After B (k + 1) (mm Y (factor Y Z)) (mm (factor Y Z) Z) :=
  ⟨holds_mm h.1 (holds_factor h.1 h.2), holds_mm (holds_factor h.1 h.2) h.2⟩

/-- The array the body starts the iteration from. -/
abbrev start (C D N : FVec Ideal S64x64 .f32) (e : Ideal .f32) : FVec Ideal S128x128 .f32 := k0_pay16 (F := Ideal) C D N e

/-- The last running array of the body, from the first step's second array and the second step's factor and first array. -/
abbrev finalFrom (z1 t2 y2 : FVec Ideal S128x128 .f32) : FVec Ideal S128x128 .f32 :=
  k0_pay39 (F := Ideal) k0_pay17 (k0_pay34 k0_pay17 z1 t2 y2 (constant S128x128 .f32 0x00000000#32))
    (k0_pay35 k0_pay17 z1 t2 y2 (constant S128x128 .f32 0x00000000#32)) (k0_pay36 k0_pay17)
    (k0_pay37 k0_pay17 z1 t2 y2 (constant S128x128 .f32 0x00000000#32)) k0_pay38

/-- The same, from the two covariances. -/
abbrev final (C D N : FVec Ideal S64x64 .f32) (e : Ideal .f32) : FVec Ideal S128x128 .f32 :=
  finalFrom (k0_pay20 C D N e) (k0_pay21 C D N e) (k0_pay22 C D N e)

/-- If the starting array holds `B`, the last one holds the second running matrix after ten steps. -/
theorem final_holds {C D N : FVec Ideal S64x64 .f32} {e : Ideal .f32} {B : Matrix (Fin 128) (Fin 128) ℝ}
    (h : Holds (start C D N e) B) : Holds (final C D N e) (invRoot B) := by
  have h0 : After B 0 (start C D N e) (k0_pay17 (F := Ideal)) := ⟨h, holds_one⟩
  have h2 : After B 2 (k0_pay22 (F := Ideal) C D N e) (k0_pay23 (F := Ideal) (k0_pay20 C D N e) (k0_pay21 C D N e)
      (constant S128x128 .f32 0x00000000#32)) := h0.step.step
  unfold final finalFrom
  generalize k0_pay22 (F := Ideal) C D N e = y2 at h2 ⊢
  generalize k0_pay20 (F := Ideal) C D N e = z1 at h2 ⊢
  generalize k0_pay21 (F := Ideal) C D N e = t2 at h2 ⊢
  have h6 : After B 6 (k0_pay34 (F := Ideal) k0_pay17 z1 t2 y2 (constant S128x128 .f32 0x00000000#32))
      (k0_pay35 (F := Ideal) k0_pay17 z1 t2 y2 (constant S128x128 .f32 0x00000000#32)) := h2.step.step.step.step
  generalize hy6 : k0_pay34 (F := Ideal) k0_pay17 z1 t2 y2 (constant S128x128 .f32 0x00000000#32) = y6 at h6 ⊢
  generalize hz6 : k0_pay35 (F := Ideal) k0_pay17 z1 t2 y2 (constant S128x128 .f32 0x00000000#32) = z6 at h6 ⊢
  have hp : k0_pay37 (F := Ideal) k0_pay17 z1 t2 y2 (constant S128x128 .f32 0x00000000#32) = mm z6 y6 := by
    rw [← hy6, ← hz6]; rfl
  rw [hp]
  exact h6.step.step.step.step.2

end Cert.Proof

end
-- ==== Proof.KernelPair.lean ====
/-
  The two images of one grid step in the Newton iteration: what the kernel starts from and what it ends with.
-/
module

public import proofs.«01_k».proof.Proof.KernelNewton

@[expose] public section

set_option maxRecDepth 16384

noncomputable section

namespace Cert.Proof

open Idealize.ShloMosaic Idealize.ShloMosaic.TcCoe Idealize.SL.Sem
open Cert.KernelIdeal Cert.KernelIdeal.Gen

/-- The word of the regularisation constant. -/
abbrev epsWord : Ideal .f32 := Scalar.ofBits .f32 0x3727C5AC#32

/-- The kernel's covariance of an image. -/
abbrev covOf (X : FVec Ideal S2304x512 .f32) : FVec Ideal S64x64 .f32 := k0_pay13 (F := Ideal) k0_pay11 (k0_pay12 X) epsWord

/-- The array that the iteration starts from holds the two normalised covariances on its diagonal. -/
theorem start_holds (X₀ X₁ : FVec Ideal S2304x512 .f32) (Y₀ Y₁ : Matrix (Fin 64) (Fin 64) ℝ)
    (h₀ : ∀ i j, kcov (samples X₀) i j * Ideal.div 1 (knorm (samples X₀)) = (Y₀ i j : EReal))
    (h₁ : ∀ i j, kcov (samples X₁) i j * Ideal.div 1 (knorm (samples X₁)) = (Y₁ i j : EReal)) :
    Holds (start (covOf X₀) k0_pay11 (k0_pay12 X₁) epsWord) (pair Y₀ Y₁) := fun i j => by
  have hn₀ : k0_pay14 (F := Ideal) (covOf X₀) = knorm (samples X₀) := norm_read X₀
  have hn₁ := norm_read X₁
  pointwise [start, k0_pay16]
  rw [pair_apply]
  split <;> split
  · exact (congrArg₂ (· * ·) (cov_read X₀ _ _) (congrArg (Ideal.div 1) hn₀)).trans (h₀ _ _)
  · rfl
  · rfl
  · exact (congrArg₂ (· * ·) (cov_read X₁ _ _) (congrArg (Ideal.div 1) hn₁)).trans (h₁ _ _)

/-- The array that it ends with, read in its upper left quarter: the first image's inverse root. -/
theorem final_upper (X₀ X₁ : FVec Ideal S2304x512 .f32) (Y₀ Y₁ : Matrix (Fin 64) (Fin 64) ℝ)
    (h₀ : ∀ i j, kcov (samples X₀) i j * Ideal.div 1 (knorm (samples X₀)) = (Y₀ i j : EReal))
    (h₁ : ∀ i j, kcov (samples X₁) i j * Ideal.div 1 (knorm (samples X₁)) = (Y₁ i j : EReal)) (i j : Fin 64) :
    final (covOf X₀) k0_pay11 (k0_pay12 X₁) epsWord (ix2 ⟨i, by omega⟩ ⟨j, by omega⟩) = (invRoot Y₀ i j : EReal) := by
  rw [final_holds (start_holds X₀ X₁ Y₀ Y₁ h₀ h₁), invRoot_pair, pair_upper]

/-- In its lower right quarter: the second image's. -/
theorem final_lower (X₀ X₁ : FVec Ideal S2304x512 .f32) (Y₀ Y₁ : Matrix (Fin 64) (Fin 64) ℝ)
    (h₀ : ∀ i j, kcov (samples X₀) i j * Ideal.div 1 (knorm (samples X₀)) = (Y₀ i j : EReal))
    (h₁ : ∀ i j, kcov (samples X₁) i j * Ideal.div 1 (knorm (samples X₁)) = (Y₁ i j : EReal)) (i j : Fin 64) :
    final (covOf X₀) k0_pay11 (k0_pay12 X₁) epsWord (ix2 ⟨64 + i, by omega⟩ ⟨64 + j, by omega⟩)
      = (invRoot Y₁ i j : EReal) := by
  rw [final_holds (start_holds X₀ X₁ Y₀ Y₁ h₀ h₁), invRoot_pair, pair_lower]

end Cert.Proof

end
-- ==== Proof.KernelMask.lean ====
/-
  The kernel's mask, which keeps a channel's group of eight apart from the others, and its copies of a small matrix.
-/
module

public import proofs.«01_k».proof.Proof.KernelStats
public import proofs.«01_k».proof.Proof.Gen.KernelIdeal.Frame

@[expose] public section

set_option maxRecDepth 16384

noncomputable section

namespace Cert.Proof

open Idealize.ShloMosaic Idealize.ShloMosaic.TcCoe Idealize.SL.Sem
open Cert.KernelIdeal Cert.KernelIdeal.Gen

/-- The group of eight that a channel's word belongs to, by the kernel's division that rounds down. -/
def groupWord (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi ArithUnit.vector w 64#32) 0#32))
    (IntOp.subi (IntOp.divsi ArithUnit.vector w 64#32) 1#32)
    (IntOp.divsi ArithUnit.vector w 64#32)

/-- It is the channel's number over 64. -/
theorem groupWord_eq : ∀ o : Fin 512, groupWord (BitVec.ofNat 32 o) = BitVec.ofNat 32 (o / 64) := by decide +kernel

/-- The kernel's mask is one where two channels belong to the same group of 64, zero elsewhere. -/
theorem mask_read (x0 : Vec Ideal S2x2304x512 .f32) (x1 : Vec Ideal S64x64 .f32) (x2 : Vec Ideal S1x64 .f32) (o c : Fin 512) :
    k0_pay56 (F := Ideal) x0 x1 x2 (ix2 o c) = ((if (o : ℕ) / 64 = c / 64 then 1 else 0 : ℝ) : EReal) := by
  pointwise [k0_pay56, k0_pay42, k0_pay40, k0_pay41]
  refine (agree_word (groupWord (BitVec.ofNat 32 o)) (groupWord (BitVec.ofNat 32 c))).trans ?_
  have h := (word_inj (n := 8) (by norm_num) ⟨o / 64, by omega⟩ ⟨c / 64, by omega⟩).trans Fin.ext_iff
  simp only [groupWord_eq, h]

/-- Eight copies of a small matrix below one another, read at a row: the row of the small matrix. -/
theorem rows_read (A : FVec Ideal S64x64 .f32) (h) (o : Fin 512) (j : Fin 64) :
    concatenate S512x64 0 [⟨S64x64, A⟩, ⟨S64x64, A⟩, ⟨S64x64, A⟩, ⟨S64x64, A⟩, ⟨S64x64, A⟩, ⟨S64x64, A⟩, ⟨S64x64, A⟩,
      ⟨S64x64, A⟩] h (ix2 o j) = A (ix2 ⟨o % 64, by omega⟩ j) := by
  pointwise []
  repeat' split
  all_goals exact congrArg (fun a : Fin 64 => A (ix2 a j)) (Fin.ext (by dsimp only; omega))

/-- Eight copies of a block of columns beside one another, read at a column. -/
theorem cols_read (A : FVec Ideal S512x64 .f32) (h) (o c : Fin 512) :
    concatenate S512x512 1 [⟨S512x64, A⟩, ⟨S512x64, A⟩, ⟨S512x64, A⟩, ⟨S512x64, A⟩, ⟨S512x64, A⟩, ⟨S512x64, A⟩,
      ⟨S512x64, A⟩, ⟨S512x64, A⟩] h (ix2 o c) = A (ix2 o ⟨c % 64, by omega⟩) := by
  pointwise []
  repeat' split
  all_goals exact congrArg (fun a : Fin 64 => A (ix2 o a)) (Fin.ext (by dsimp only; omega))

/-- Eight copies of a row beside one another, read at a column. -/
theorem row_read (A : FVec Ideal S1x64 .f32) (h) (c : Fin 512) :
    concatenate S1x512 1 [⟨S1x64, A⟩, ⟨S1x64, A⟩, ⟨S1x64, A⟩, ⟨S1x64, A⟩, ⟨S1x64, A⟩, ⟨S1x64, A⟩, ⟨S1x64, A⟩,
      ⟨S1x64, A⟩] h (ix2 0 c) = A (ix2 0 ⟨c % 64, by omega⟩) := by
  pointwise []
  repeat' split
  all_goals exact congrArg (fun a : Fin 64 => A (ix2 0 a)) (Fin.ext (by dsimp only; omega))

end Cert.Proof

end
-- ==== Proof.KernelOut.lean ====
/-
  What the kernel's body stores for one image: the samples under the small matrix, plus the corrected bias.
-/
module

public import proofs.«01_k».proof.Proof.KernelMask

@[expose] public section

set_option maxRecDepth 16384

noncomputable section

namespace Cert.Proof

open Idealize.ShloMosaic Idealize.ShloMosaic.TcCoe Idealize.SL.Sem
open Cert.KernelIdeal Cert.KernelIdeal.Gen

/-- A sum over all channels against a row that is masked to one group is a sum over that group. -/
theorem masked_sum (f : Fin 512 → EReal) (N : Fin 64 → EReal) (k : Fin 8) :
    ∑ c : Fin 512, f c * (N ⟨c % 64, by omega⟩ * ((if (k : ℕ) = (c : ℕ) / 64 then 1 else 0 : ℝ) : EReal))
      = ∑ j : Fin 64, f ⟨k * 64 + j, by omega⟩ * N j := by
  rw [Fin.sum_univ_tiles 8 64 rfl, Finset.sum_eq_single k]
  · refine Finset.sum_congr rfl fun j _ => ?_
    have h1 : (⟨((k : ℕ) * 64 + j) % 64, by omega⟩ : Fin 64) = j := Fin.ext (by dsimp only; omega)
    have h2 : (k : ℕ) = ((k : ℕ) * 64 + j) / 64 := by omega
    simp only [h1, if_pos h2, EReal.coe_one, mul_one]
  · intro l _ hl
    refine Finset.sum_eq_zero fun j _ => ?_
    have h2 : ¬ (k : ℕ) = ((l : ℕ) * 64 + j) / 64 := fun e => hl (Fin.ext (by omega))
    simp only [if_neg h2, EReal.coe_zero, mul_zero]
  · exact fun h => absurd (Finset.mem_univ k) h

/-- The stored value at a pixel and at channel `64 k + g`, where the small matrix holds `M` and the column holds the
    channel means. -/
theorem out_read (X : FVec Ideal S2304x512 .f32) (mcol : FVec Ideal S64x1 .f32) (mask : FVec Ideal S512x512 .f32)
    (A : FVec Ideal S64x64 .f32) (b : Vec Ideal S1x64 .f32) (M : Matrix (Fin 64) (Fin 64) ℝ)
    (hA : ∀ i j, A (ix2 i j) = (M i j : EReal)) (hm : ∀ g : Fin 64, mcol (ix2 g 0) = kmean (samples X) g)
    (hmask : ∀ o c : Fin 512, mask (ix2 o c) = ((if (o : ℕ) / 64 = c / 64 then 1 else 0 : ℝ) : EReal))
    (p : Fin 2304) (k : Fin 8) (g : Fin 64) :
    k0_pay44 (F := Ideal) X mcol mask A b (ix3 0 p ⟨k * 64 + g, by omega⟩)
      = ∑ j, samples X (k, p) j * (M g j : EReal) + (b (ix2 0 g) - ∑ j, (M g j : EReal) * kmean (samples X) j) := by
  have hg : (⟨((k : ℕ) * 64 + g) % 64, by omega⟩ : Fin 64) = g := Fin.ext (by dsimp only; omega)
  have hk : ((k : ℕ) * 64 + g) / 64 = k := by omega
  dsimp only [k0_pay44]
  generalize hB : concatenate S512x512 1 _ _ = B
  generalize hR : concatenate S1x512 1 _ _ = R
  have hB' (o c : Fin 512) : B (ix2 o c) = (M ⟨o % 64, by omega⟩ ⟨c % 64, by omega⟩ : EReal) := by
    rw [← hB, cols_read, rows_read, hA]
  have hR' (c : Fin 512) : R (ix2 0 c) = b (ix2 0 ⟨c % 64, by omega⟩)
      - ∑ j, (M ⟨c % 64, by omega⟩ j : EReal) * kmean (samples X) j := by
    rw [← hR, row_read]
    pointwise []
    simp only [hA, hm, zero_add]
  clear hB hR
  pointwise []
  simp only [hB', hR', hmask, zero_add, hg, hk]
  exact congrArg (· + _) (masked_sum (fun c => X (ix2 p c)) (fun j => (M g j : EReal)) k)

end Cert.Proof

end
-- ==== Proof.KernelSlab.lean ====
/-
  The kernel's stored value for each of its two images, from the images, the weights and the bias.
-/
module

public import proofs.«01_k».proof.Proof.KernelPair
public import proofs.«01_k».proof.Proof.KernelOut

@[expose] public section

set_option maxRecDepth 16384

noncomputable section

namespace Cert.Proof

open Idealize.ShloMosaic Idealize.ShloMosaic.TcCoe Idealize.SL.Sem
open Cert.KernelIdeal Cert.KernelIdeal.Gen

/-- `Y` and `r` describe the samples `x`: the normalised covariance, and the inverse square root of its norm. -/
structure Describes (x : Place → Fin 64 → EReal) (Y : Matrix (Fin 64) (Fin 64) ℝ) (r : ℝ) : Prop where
  cov : ∀ i j, kcov x i j * Ideal.div 1 (knorm x) = (Y i j : EReal)
  scale : Ideal.rsqrt (knorm x) = (r : EReal)

/-- What the kernel stores at place `s` and channel `g` of an image: the sample through the map, plus a shifted bias. -/
def stored (x : Place → Fin 64 → EReal) (M : Matrix (Fin 64) (Fin 64) ℝ) (b : EReal) (s : Place) (g : Fin 64) : EReal :=
  ∑ j, x s j * (M g j : EReal) + (b - ∑ j, (M g j : EReal) * kmean x j)

/-- The mean column, read. -/
theorem mean_col (X : FVec Ideal S2304x512 .f32) (g : Fin 64) : k0_pay10 (F := Ideal) X (ix2 g 0) = kmean (samples X) g := by
  have h := mean_read X g
  unfold k0_pay10
  generalize k0_pay9 X = B at h ⊢
  pointwise []
  exact h

/-- The small matrix of the first image: the weights times the upper left quarter times the scale. -/
theorem map_upper (n : Ideal .f32) (Z : FVec Ideal S128x128 .f32) (w : Vec Ideal S64x64 .f32) {W Y : Matrix (Fin 64) (Fin 64) ℝ} {r : ℝ}
    (hw : ∀ i j : Fin 64, w (ix2 i j) = (W i j : EReal))
    (hZ : ∀ i j : Fin 64, Z (ix2 ⟨i, by omega⟩ ⟨j, by omega⟩) = (invRoot Y i j : EReal))
    (hr : Scalar.rsqrt n = (r : EReal)) (i j : Fin 64) :
    k0_pay43 (F := Ideal) n Z w (ix2 i j) = (mapOf W Y r i j : EReal) := by
  pointwise [k0_pay43]
  simp only [hw, hZ, hr, zero_add, ← EReal.coe_mul, coe_sum, mapOf]

/-- The small matrix of the second image, as the kernel writes it. -/
abbrev lowerMap (n : Ideal .f32) (Z : FVec Ideal S128x128 .f32) (w : Vec Ideal S64x64 .f32) : FVec Ideal S64x64 .f32 :=
  matmul dot_S64x64_S64x64_S64x64_1_0_0_1_n_n none (show FVec Ideal S64x64 .f32 from shapeCast S64x64 w shapeCasts_S64x64_S64x64)
    (mulf (extractStridedSlice S64x64 ![64, 64] Z slices_S128x128_o64_64_S64x64) (broadcast S64x64 (Scalar.rsqrt n)))
    (constant S64x64 .f32 0x00000000#32)

/-- It is the weights times the lower right quarter times the scale. -/
theorem map_lower (n : Ideal .f32) (Z : FVec Ideal S128x128 .f32) (w : Vec Ideal S64x64 .f32) {W Y : Matrix (Fin 64) (Fin 64) ℝ} {r : ℝ}
    (hw : ∀ i j : Fin 64, w (ix2 i j) = (W i j : EReal))
    (hZ : ∀ i j : Fin 64, Z (ix2 ⟨64 + i, by omega⟩ ⟨64 + j, by omega⟩) = (invRoot Y i j : EReal))
    (hr : Scalar.rsqrt n = (r : EReal)) (i j : Fin 64) :
    lowerMap n Z w (ix2 i j) = (mapOf W Y r i j : EReal) := by
  pointwise [lowerMap]
  simp only [hw, hZ, hr, zero_add, ← EReal.coe_mul, coe_sum, mapOf]

/-- The second store is the first one's arithmetic on the second small matrix. -/
theorem second_form (X : FVec Ideal S2304x512 .f32) (mcol : FVec Ideal S64x1 .f32) (n : Ideal .f32)
    (Z : FVec Ideal S128x128 .f32) (mask : FVec Ideal S512x512 .f32) (w : Vec Ideal S64x64 .f32) (b : Vec Ideal S1x64 .f32) :
    k0_pay45 (F := Ideal) X mcol n Z mask w b = k0_pay44 X mcol mask (lowerMap n Z w) b := rfl

section
variable {X₀ X₁ : FVec Ideal S2304x512 .f32} {Y₀ Y₁ W : Matrix (Fin 64) (Fin 64) ℝ} {r₀ r₁ : ℝ}
variable (h₀ : Describes (samples X₀) Y₀ r₀) (h₁ : Describes (samples X₁) Y₁ r₁)
variable {mask : FVec Ideal S512x512 .f32} {w : Vec Ideal S64x64 .f32} (b : Vec Ideal S1x64 .f32)
variable (hmask : ∀ o c : Fin 512, mask (ix2 o c) = ((if (o : ℕ) / 64 = c / 64 then 1 else 0 : ℝ) : EReal))
variable (hw : ∀ i j : Fin 64, w (ix2 i j) = (W i j : EReal))
include h₀ h₁ hmask hw

/-- The first image's stored values. -/
theorem first_read (p : Fin 2304) (k : Fin 8) (g : Fin 64) :
    k0_pay44 (F := Ideal) X₀ (k0_pay10 X₀) mask
        (k0_pay43 (k0_pay14 (covOf X₀)) (final (covOf X₀) k0_pay11 (k0_pay12 X₁) epsWord) w) b (ix3 0 p ⟨k * 64 + g, by omega⟩)
      = stored (samples X₀) (mapOf W Y₀ r₀) (b (ix2 0 g)) (k, p) g := by
  have hn : k0_pay14 (F := Ideal) (covOf X₀) = knorm (samples X₀) := norm_read X₀
  have hZ := final_upper X₀ X₁ Y₀ Y₁ h₀.cov h₁.cov
  rw [hn]
  generalize final (covOf X₀) k0_pay11 (k0_pay12 X₁) epsWord = Z at hZ ⊢
  exact out_read X₀ _ mask _ b _ (map_upper _ Z w hw hZ h₀.scale) (mean_col X₀) hmask p k g

/-- The second image's stored values. -/
theorem second_read (p : Fin 2304) (k : Fin 8) (g : Fin 64) :
    k0_pay45 (F := Ideal) X₁ (k0_pay10 X₁) (k0_pay15 k0_pay11 (k0_pay12 X₁) epsWord)
        (final (covOf X₀) k0_pay11 (k0_pay12 X₁) epsWord) mask w b (ix3 0 p ⟨k * 64 + g, by omega⟩)
      = stored (samples X₁) (mapOf W Y₁ r₁) (b (ix2 0 g)) (k, p) g := by
  have hn := norm_read X₁
  have hZ := final_lower X₀ X₁ Y₀ Y₁ h₀.cov h₁.cov
  generalize final (covOf X₀) k0_pay11 (k0_pay12 X₁) epsWord = Z at hZ ⊢
  rw [second_form, hn]
  exact out_read X₁ _ mask _ b _ (map_lower _ Z w hw hZ h₁.scale) (mean_col X₁) hmask p k g

end

end Cert.Proof

end
-- ==== Proof.KernelBlock.lean ====
/-
  What one grid point leaves in its block of the result: two images, each from its own samples.
-/
module

public import proofs.«01_k».proof.Proof.KernelSlab
public import Idealize.ShloMosaic.Lib.Pipeline.ValueKit

@[expose] public section

set_option maxRecDepth 16384

noncomputable section

namespace Cert.Proof

open Idealize.ShloMosaic Idealize.ShloMosaic.TcCoe Idealize.SL.Sem
open Idealize.ShloMosaic.Pipeline (Dat)
open Cert.KernelIdeal Cert.KernelIdeal.Gen

/-- The samples of image `s` of a block. -/
def slab (x0 : Vec Ideal S2x2304x512 .f32) (s : Fin 2) : Place → Fin 64 → EReal :=
  fun q g => x0 (ix3 s q.2 ⟨q.1 * 64 + g, by omega⟩)

/-- The first load of a block reads its first image. -/
theorem load_first (x0 : Vec Ideal S2x2304x512 .f32) : samples (k0_pay1 (F := Ideal) (View.ld x0 r0_0)) = slab x0 0 := by
  funext q g
  unfold samples slab
  pointwise [k0_pay1]

/-- The second load reads the second image. -/
theorem load_second (x0 : Vec Ideal S2x2304x512 .f32) : samples (k0_pay2 (F := Ideal) (View.ld x0 r0_1)) = slab x0 1 := by
  funext q g
  unfold samples slab
  pointwise [k0_pay2]

/-- The first image's covariance is computed as the second image's is. -/
theorem cov_form (v : Vec Ideal S1x2304x512 .f32) :
    k0_pay8 (F := Ideal) (k0_pay3 v) k0_pay5 (k0_pay6 v) (k0_pay7 v) = covOf (k0_pay1 v) := rfl

/-- So is its column of means. -/
theorem mean_form (v : Vec Ideal S1x2304x512 .f32) : k0_pay4 (F := Ideal) v = k0_pay10 (k0_pay1 v) := rfl

/-- What a block of the result holds, at image `s`, pixel `p` and channel `64 k + g`. -/
theorem block_read (x0 : Vec Ideal S2x2304x512 .f32) (x1 : Vec Ideal S64x64 .f32) (x2 : Vec Ideal S1x64 .f32)
    {Y : Fin 2 → Matrix (Fin 64) (Fin 64) ℝ} {r : Fin 2 → ℝ} {W : Matrix (Fin 64) (Fin 64) ℝ}
    (h : ∀ s, Describes (slab x0 s) (Y s) (r s)) (hw : ∀ i j : Fin 64, x1 (ix2 i j) = (W i j : EReal))
    (y : S2x2304x512.Idx) (s : Fin 2) (p : Fin 2304) (k : Fin 8) (g : Fin 64) (hs : (y 0 : ℕ) = s) (hp : (y 1 : ℕ) = p)
    (hc : (y 2 : ℕ) = k * 64 + g) :
    out0_3 (F := Ideal) x0 x1 x2 y = stored (slab x0 s) (mapOf W (Y s) (r s)) (x2 (ix2 0 g)) (k, p) g := by
  have h₀ := h 0
  have h₁ := h 1
  have l₀ := load_first x0
  have l₁ := load_second x0
  rw [← l₀] at h₀
  rw [← l₁] at h₁
  have hmask := mask_read x0 x1 x2
  have hw' : ∀ i j : Fin 64, View.ld x1 r0_2 (ix2 i j) = (W i j : EReal) := fun i j => by
    rw [← hw]; pointwise []
  have hb : View.ld x2 r0_3 (ix2 0 g) = x2 (ix2 0 g) := by pointwise []
  unfold_out out0_3
  rw [cov_form, mean_form]
  canon_tiles x e
  case piece0 =>
    have hx : x = ix3 0 p (⟨k * 64 + g, by omega⟩ : Fin 512) := by
      funext a; fin_cases a <;> exact Fin.ext (by dsimp; omega)
    obtain rfl : s = 1 := Fin.ext (by dsimp; omega)
    rw [hx, ← hb, ← l₁]
    exact second_read h₀ h₁ _ hmask hw' p k g
  all_goals
    have hx : x = ix3 0 p (⟨k * 64 + g, by omega⟩ : Fin 512) := by
      funext a; fin_cases a <;> exact Fin.ext (by dsimp; omega)
    obtain rfl : s = 0 := Fin.ext (by dsimp; omega)
    rw [hx, ← hb, ← l₀]
    exact first_read h₀ h₁ _ hmask hw' p k g

end Cert.Proof

end
-- ==== Proof.KernelArray.lean ====
/-
  What the kernel's result array holds after all grid points: every image's stored values.
-/
module

public import proofs.«01_k».proof.Proof.KernelBlock

@[expose] public section

set_option maxRecDepth 16384

noncomputable section

namespace Cert.Proof

open Idealize.ShloMosaic Idealize.ShloMosaic.TcCoe Idealize.SL.Sem
open Idealize.ShloMosaic.Pipeline (Dat)
open Cert.KernelIdeal Cert.KernelIdeal.Gen

/-- The samples of image `n` in the argument: channel `64 k + g` belongs to group `g`, pixels are counted row by row. -/
def image (X : FVec Ideal S32x512x48x48 .f32) (n : Fin 32) : Place → Fin 64 → EReal :=
  fun s g => X (ix4 n ⟨s.1 * 64 + g, by omega⟩ ⟨s.2 / 48, by omega⟩ ⟨s.2 % 48, by omega⟩)

/-- The result array, image by image, from the arguments and from what describes each image. -/
def stack (X : FVec Ideal S32x512x48x48 .f32) (b : FVec Ideal S1x64x1 .f32) (M : Fin 32 → Matrix (Fin 64) (Fin 64) ℝ) :
    FVec Ideal S32x2304x512 .f32 := fun i =>
  have h0 : (i 0 : ℕ) < 32 := (i 0).isLt
  have h1 : (i 1 : ℕ) < 2304 := (i 1).isLt
  have h2 : (i 2 : ℕ) < 512 := (i 2).isLt
  stored (image X ⟨i 0, h0⟩) (M ⟨i 0, h0⟩) (b (ix3 0 ⟨i 2 % 64, by omega⟩ 0)) (⟨i 2 / 64, by omega⟩, ⟨i 1, h1⟩) ⟨i 2 % 64, by omega⟩

/-- The result array, read at image `n`, pixel `p` and channel `64 k + g`. -/
theorem stack_read (X : FVec Ideal S32x512x48x48 .f32) (b : FVec Ideal S1x64x1 .f32) (M : Fin 32 → Matrix (Fin 64) (Fin 64) ℝ)
    (n : Fin 32) (p : Fin 2304) (k : Fin 8) (g : Fin 64) :
    stack X b M (ix3 n p ⟨k * 64 + g, by omega⟩) = stored (image X n) (M n) (b (ix3 0 g 0)) (k, p) g := by
  have hk : (⟨((k : ℕ) * 64 + g) / 64, by omega⟩ : Fin 8) = k := Fin.ext (by dsimp only; omega)
  have hg : (⟨((k : ℕ) * 64 + g) % 64, by omega⟩ : Fin 64) = g := Fin.ext (by dsimp only; omega)
  calc stack X b M (ix3 n p ⟨k * 64 + g, by omega⟩)
      = stored (image X n) (M n) (b (ix3 0 ⟨((k : ℕ) * 64 + g) % 64, by omega⟩ 0)) (⟨((k : ℕ) * 64 + g) / 64, by omega⟩, p)
          ⟨((k : ℕ) * 64 + g) % 64, by omega⟩ := rfl
    _ = _ := by rw [hk, hg]

variable (m : (ℓ : Loc nD τ sig) → Buf (Elt Ideal) ℓ) (c : Dev nD)

/-- The images. -/
abbrev argX : FVec Ideal S32x512x48x48 .f32 := m ((c.tc : Thread nD τ).loc main_arg0)
/-- The weights. -/
abbrev argW : FVec Ideal S1x64x64 .f32 := m ((c.tc : Thread nD τ).loc main_arg1)
/-- The bias. -/
abbrev argB : FVec Ideal S1x64x1 .f32 := m ((c.tc : Thread nD τ).loc main_arg2)

/-- Which block each window is on at each grid point. -/
theorem idx : ∀ t : Fin cfg0.N, win0_0.index t = ![t.val, 0, 0] ∧ win0_1.index t = ![0, 0] ∧ win0_2.index t = ![0, 0]
    ∧ win0_3.index t = ![t.val, 0, 0] := (by decide +kernel : ∀ t : Fin grid0.N, _)

/-- The kernel's first operand: the images with the channels last and the pixels in one row. -/
theorem operand_images : V m c main_v1 = shapeCast S32x2304x512
    (transpose S32x48x48x512 [0, 2, 3, 1] (argX m c) transposes_S32x512x48x48_S32x48x48x512_0_2_3_1)
    shapeCasts_S32x48x48x512_S32x2304x512 := by
  unfold V; after_results; try rfl

/-- Its second operand: the weights as one matrix. -/
theorem operand_weights : V m c main_v2 = shapeCast S64x64 (argW m c) shapeCasts_S1x64x64_S64x64 := by
  unfold V; rfl

/-- Its third operand: the bias as one row. -/
theorem operand_bias : V m c main_v3 = shapeCast S1x64 (argB m c) shapeCasts_S1x64x1_S1x64 := by
  unfold V; rfl

/-- A grid point's block of samples is two of the images. -/
theorem block_images (t : Fin cfg0.N) (s : Fin 2) (h : 2 * t.val + s < 32) :
    slab (iblk m c 0 t) s = image (argX m c) ⟨2 * t.val + s, h⟩ := by
  funext q g
  unfold slab image
  blk_simp [iblk]
  rw [operand_images]
  generalize argX m c = X
  pointwise []
  blk_ext [idx t]

/-- Its block of weights is the weights. -/
theorem block_weights (t : Fin cfg0.N) (i j : Fin 64) :
    (show FVec Ideal S64x64 .f32 from iblk m c 1 t) (ix2 i j) = argW m c (ix3 0 i j) := by
  blk_simp [iblk]
  rw [operand_weights]
  generalize argW m c = X
  pointwise []
  blk_ext [idx t]

/-- Its block of the bias is the bias. -/
theorem block_bias (t : Fin cfg0.N) (g : Fin 64) :
    (show FVec Ideal S1x64 .f32 from iblk m c 2 t) (ix2 0 g) = argB m c (ix3 0 g 0) := by
  blk_simp [iblk]
  rw [operand_bias]
  generalize argB m c = X
  pointwise []
  blk_ext [idx t]

/-- After all grid points the kernel's result array holds every image's stored values. -/
theorem array_read {Y : Fin 32 → Matrix (Fin 64) (Fin 64) ℝ} {r : Fin 32 → ℝ} {W : Matrix (Fin 64) (Fin 64) ℝ}
    (h : ∀ n, Describes (image (argX m c) n) (Y n) (r n)) (hw : ∀ i j : Fin 64, argW m c (ix3 0 i j) = (W i j : EReal)) :
    (dats m 0 c).arrAt 3 (cfgs 0).N = stack (argX m c) (argB m c) (fun n => mapOf W (Y n) (r n)) := by
  refine (dats m 0 c).arrAt_eq_of_covers 3 _ (by decide +kernel) fun t _ y => ?_
  blk_simp
  rw [after0_3]
  have ht : t.val < 16 := t.isLt
  have y0 : (y 0 : ℕ) < 2 := (y 0).isLt
  have y1 : (y 1 : ℕ) < 2304 := (y 1).isLt
  have y2 : (y 2 : ℕ) < 512 := (y 2).isLt
  have e := block_read (iblk m c 0 t) (iblk m c 1 t) (iblk m c 2 t) (Y := fun s => Y ⟨2 * t.val + s, by omega⟩)
    (r := fun s => r ⟨2 * t.val + s, by omega⟩) (W := W) (fun s => by rw [block_images m c t s (by omega)]; exact h _)
    (fun i j => (block_weights m c t i j).trans (hw i j)) y ⟨y 0, y0⟩ ⟨y 1, y1⟩ ⟨y 2 / 64, by omega⟩ ⟨y 2 % 64, by omega⟩
    rfl rfl (by dsimp only; omega)
  have hi : (win0_3.blk t).view.emb y = ix3 (⟨2 * t.val + y 0, by omega⟩ : Fin 32) (⟨y 1, y1⟩ : Fin 2304)
      (⟨y 2 / 64 * 64 + y 2 % 64, by omega⟩ : Fin 512) := by
    blk_ext [idx t]
  rw [hi]
  refine e.trans (Eq.trans ?_ (stack_read _ _ _ ⟨2 * t.val + y 0, by omega⟩ ⟨y 1, y1⟩ ⟨y 2 / 64, by omega⟩ ⟨y 2 % 64, by omega⟩).symm)
  rw [block_images m c t _ (by dsimp only; omega), ← block_bias m c t]

end Cert.Proof

end
-- ==== Proof.Weights.lean ====
/-
  The precondition, read: every mixing weight is a real number.
-/
module

public import proofs.«01_k».proof.Defs
public import proofs.«01_k».proof.Proof.Reals
public import proofs.«01_k».proof.Proof.KernelArray
public import proofs.«01_k».proof.Proof.Gen.Pre_weights_finite
public import Idealize.ShloMosaic.Lib.ReduceAll

@[expose] public section

set_option maxRecDepth 16384

noncomputable section

namespace Cert.Proof

open Idealize.ShloMosaic Idealize.ShloMosaic.TcCoe Idealize.SL.Sem
open Cert.KernelIdeal

/-- Under the precondition the weights are the entries of a real matrix. -/
theorem weights_real [Cert.Pre_weights_finite.Facts] (m : (ℓ : Loc nD τ sig) → Buf (Elt Ideal) ℓ) (h : Cert.Pre_KernelIdeal_weights_finite m) (c : Dev nD) :
    ∃ W : Matrix (Fin 64) (Fin 64) ℝ, ∀ i j : Fin 64, argW m c (ix3 0 i j) = (W i j : EReal) := by
  have e := congrFun (h c) default
  dsimp only [Cert.Pre_weights_finite.fn] at e
  have hf (i j : Fin 64) : ∃ a : ℝ, argW m c (ix3 0 i j) = (a : EReal) := by
    have := Host.reduce_andi_all _ _ _ _ _ e (ix3 0 i j)
    revert this
    unfold argW
    generalize m (c.tc.loc main_arg1) = w
    intro this
    pointwise [] at this
    rw [bits_top] at this
    generalize w (ix3 0 i j) = a at this ⊢
    induction a using EReal.rec with
    | coe a => exact ⟨a, rfl⟩
    | bot => simp [FloatOps.absf] at this
    | top => simp [FloatOps.absf] at this
  choose W hW using hf
  exact ⟨W, hW⟩

end Cert.Proof

end
-- ==== Proof.KernelResult.lean ====
/-
  The kernel's result: the result array with the channels moved back and the pixels put back in rows.
-/
module

public import proofs.«01_k».proof.Proof.KernelArray
public import Idealize.ShloMosaic.Lib.Claim

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The result as the host operations after the grid make it from the result array. -/
abbrev unstack (A : FVec Ideal S32x2304x512 .f32) : FVec Ideal S32x512x48x48 .f32 :=
  transpose S32x512x48x48 [0, 3, 1, 2] (shapeCast S32x48x48x512 A shapeCasts_S32x2304x512_S32x48x48x512)
    transposes_S32x48x48x512_S32x512x48x48_0_3_1_2

/-- A place of it. -/
theorem unstack_read (A : FVec Ideal S32x2304x512 .f32) (n : Fin 32) (ch : Fin 512) (y x : Fin 48) :
    unstack A (ix4 n ch y x) = A (ix3 n (⟨y * 48 + x, by omega⟩ : Fin 2304) ch) := by
  pointwise [unstack]

/-- The result buffer after the host operations. -/
theorem tail_read : Pipeline.afterTail₀ cfgs (dats m) 0 (V0 m) [hostOps1] c main_v6
    = unstack ((dats m 0 c).arrAt 3 (cfgs 0).N) := by
  have h : Pipeline.withArrays (cfgs 0).spec c (V0 m c) (fun w => (dats m 0 c).arrAt w (cfgs 0).N) (Proc.devRef .tc main_v4)
      = (dats m 0 c).arrAt 3 (cfgs 0).N := Pipeline.withArrays_arr spec0 (by decide) c (V0 m c) (fun w => (dats m 0 c).arrAt w (cfgs 0).N) 3
  rw [← h]
  unfold Pipeline.afterTail₀
  generalize Pipeline.withArrays (cfgs 0).spec c (V0 m c) _ = U
  rfl

/-- The kernel's run: what its result buffer holds, and its arguments as they were. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v6) = unstack ((dats m 0 c).arrAt 3 (cfgs 0).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).2 main_v6 (Pipeline.mem_restRefs_of main_v6 (by decide) (by decide))).trans
    (tail_read m c), h.2 c⟩) (θ_run_and (run_main m g) (unchanged m g))

end Cert.Proof

end
-- ==== Proof.RefStats.lean ====
/-
  What the reference computes first, for each image: the centred samples, the covariance, its Frobenius norm.
-/
module

public import proofs.«01_k».proof.Proof.Stats
public import proofs.«01_k».proof.Proof.Gen.ReferenceIdeal.Run

@[expose] public section

set_option maxRecDepth 16384

noncomputable section

namespace Cert.Proof.Ref

open Idealize.ShloMosaic Idealize.ShloMosaic.TcCoe Idealize.SL.Sem
open Cert.ReferenceIdeal Cert.ReferenceIdeal.Gen Cert.ReferenceIdeal.Value

/-- The samples of image `n` in the argument: channel `64 k + g` belongs to group `g`, pixels are counted row by row. -/
def image (X : FVec Ideal S32x512x48x48 .f32) (n : Fin 32) : Place → Fin 64 → EReal :=
  fun s g => X (ix4 n ⟨s.1 * 64 + g, by omega⟩ ⟨s.2 / 48, by omega⟩ ⟨s.2 % 48, by omega⟩)

variable (V0 : Valuation τ sig (Elt Ideal))

/-- The images. -/
abbrev imgs : FVec Ideal S32x512x48x48 .f32 := V0 (Proc.devRef .tc main_arg0)

/-- The images by group and sample, as the reference rearranges them. -/
abbrev grouped : FVec Ideal S32x64x18432 .f32 := res_main_v2 V0
/-- The centred samples. -/
abbrev centred : FVec Ideal S32x64x18432 .f32 := res_main_v8 V0
/-- The covariances. -/
abbrev covs : FVec Ideal S32x64x64 .f32 := res_main_v23 V0
/-- Their norms. -/
abbrev norms : FVec Ideal S32x1x1 .f32 := res_main_v26 V0
/-- The covariances over their norms. -/
abbrev scaled : FVec Ideal S32x64x64 .f32 := res_main_v28 V0

/-- A sum over the samples of a group, by channel and pixel. -/
theorem sum_samples (f : Fin 18432 → EReal) : ∑ q, f q = ∑ s : Place, f ⟨s.1 * 2304 + s.2, by omega⟩ := by
  rw [Fin.sum_univ_tiles 8 2304 rfl, Fintype.sum_prod_type]

/-- The bit that two small indices agree, as a number. -/
theorem agree_host (i j : Fin 64) :
    FloatOps.uitofp (F := Ideal) .f32 (IntOp.cmpi .eq (IntOp.addi (BitVec.ofNat 32 i) 0#32) (BitVec.ofNat 32 j))
      = (((if i = j then 1 else 0 : ℝ)) : EReal) := by
  have h0 : IntOp.addi (BitVec.ofNat 32 (i : ℕ)) 0#32 = BitVec.ofNat 32 (i : ℕ) := BitVec.add_zero _
  rw [h0]
  by_cases h : i = j
  · subst h; simp [IntOp.cmpi, FloatOps.uitofp]
  · simp [IntOp.cmpi, FloatOps.uitofp, beq_eq_false_iff_ne.2 fun e => h ((word_inj (by norm_num) i j).1 e), h]

/-- The rearranged images, read at a sample. -/
theorem grouped_read (n : Fin 32) (g : Fin 64) (k : Fin 8) (p : Fin 2304) :
    grouped V0 (ix3 n g (⟨k * 2304 + p, by omega⟩ : Fin 18432)) = image (imgs V0) n (k, p) g := by
  unfold grouped imgs res_main_v2
  generalize V0 (Proc.devRef .tc main_arg0) = X
  pointwise [image]
  have h1 : ((k : ℕ) * 2304 + p) / 48 % 48 = p / 48 := by omega
  have h2 : ((k : ℕ) * 2304 + p) % 48 = p % 48 := by omega
  simp only [h1, h2]

/-- The centred samples. -/
theorem centred_read (n : Fin 32) (g : Fin 64) (k : Fin 8) (p : Fin 2304) :
    centred V0 (ix3 n g (⟨k * 2304 + p, by omega⟩ : Fin 18432))
      = image (imgs V0) n (k, p) g - rmean (image (imgs V0) n) g := by
  have h := grouped_read V0
  unfold grouped at h
  unfold centred res_main_v8
  generalize res_main_v2 V0 = X at h ⊢
  pointwise []
  rw [bits_count, sum_samples, rmean]
  simp only [h]

/-- The covariances. -/
theorem covs_read (n : Fin 32) (i j : Fin 64) : covs V0 (ix3 n i j) = rcov (image (imgs V0) n) i j := by
  have h := centred_read V0
  unfold centred at h
  unfold covs res_main_v23
  generalize res_main_v8 V0 = X at h ⊢
  pointwise []
  rw [bits_count, sum_samples, bits_eps, agree_host, ← EReal.coe_mul, mul_ite, mul_one, mul_zero, rcov]
  simp only [h, ridge]

/-- Their Frobenius norms. -/
theorem norms_read (n : Fin 32) : norms V0 (ix3 n 0 0) = rnorm (image (imgs V0) n) := by
  have h := covs_read V0
  unfold covs at h
  unfold norms res_main_v26 res_main_v24
  generalize res_main_v23 V0 = X at h ⊢
  pointwise []
  rw [rnorm, Fin.sum_univ_tiles 64 64 rfl]
  refine congrArg Ideal.sqrt (Finset.sum_congr rfl fun i _ => Finset.sum_congr rfl fun j _ => ?_)
  have h1 : (⟨((i : ℕ) * 64 + j) / 64, by omega⟩ : Fin 64) = i := Fin.ext (by dsimp only; omega)
  have h2 : (⟨((i : ℕ) * 64 + j) % 64, by omega⟩ : Fin 64) = j := Fin.ext (by dsimp only; omega)
  simp only [h1, h2, h]

/-- The covariances over their norms. -/
theorem scaled_read (n : Fin 32) (i j : Fin 64) :
    scaled V0 (ix3 n i j) = Ideal.div (rcov (image (imgs V0) n) i j) (rnorm (image (imgs V0) n)) := by
  have h := covs_read V0 n i j
  have h' := norms_read V0 n
  unfold covs at h
  unfold norms at h'
  unfold scaled res_main_v28
  generalize res_main_v23 V0 = X at h ⊢
  generalize res_main_v26 V0 = N at h' ⊢
  pointwise []
  rw [h, h']

end Cert.Proof.Ref

end
-- ==== Proof.RefNewton.lean ====
/-
  The reference's ten Newton steps, one 64 by 64 matrix per image.
-/
module

public import proofs.«01_k».proof.Proof.RefStats
public import proofs.«01_k».proof.Proof.Newton

@[expose] public section

set_option maxRecDepth 16384

noncomputable section

namespace Cert.Proof.Ref

open Idealize.ShloMosaic Idealize.ShloMosaic.TcCoe Idealize.SL.Sem
open Cert.ReferenceIdeal Cert.ReferenceIdeal.Gen Cert.ReferenceIdeal.Value

/-- An array of matrices, one per image, holds the real matrix `B` for image `n`. -/
def Holds (n : Fin 32) (V : FVec Ideal S32x64x64 .f32) (B : Matrix (Fin 64) (Fin 64) ℝ) : Prop :=
  ∀ i j : Fin 64, V (ix3 n i j) = (B i j : EReal)

/-- The products, image by image. -/
abbrev mm (U V : FVec Ideal S32x64x64 .f32) : FVec Ideal S32x64x64 .f32 :=
  Host.dotGeneral dot_S32x64x64_S32x64x64_S32x64x64_2_1_1_2_0_0 none U V

/-- The correction factors as the reference writes them, from its identity `E`. -/
abbrev factor (E : FVec Ideal S1x64x64 .f32) (Y Z : FVec Ideal S32x64x64 .f32) : FVec Ideal S32x64x64 .f32 :=
  mulf (broadcastInDim S32x64x64 ![] bcast_S_S32x64x64 (constant S_ .f32 0x3F000000#32))
    (subf (broadcastInDim S32x64x64 ![0, 1, 2] bcast_S1x64x64_S32x64x64_0_1_2
      (mulf (broadcastInDim S1x64x64 ![] bcast_S_S1x64x64 (constant S_ .f32 0x40400000#32)) E)) (mm Z Y))

/-- The products hold the products of the matrices. -/
theorem holds_mm {n : Fin 32} {U V : FVec Ideal S32x64x64 .f32} {A B : Matrix (Fin 64) (Fin 64) ℝ}
    (hU : Holds n U A) (hV : Holds n V B) : Holds n (mm U V) (A * B) := fun i j => by
  pointwise [mm]
  simp only [hU i, hV _ j]
  exact coe_mul_sum A B i j

/-- The correction factors hold the correction factors. -/
theorem holds_factor {n : Fin 32} {E : FVec Ideal S1x64x64 .f32} {Y Z : FVec Ideal S32x64x64 .f32}
    {A B : Matrix (Fin 64) (Fin 64) ℝ}
    (hE : ∀ i j : Fin 64, E (ix3 0 i j) = (((1 : Matrix (Fin 64) (Fin 64) ℝ) i j : ℝ) : EReal))
    (hY : Holds n Y A) (hZ : Holds n Z B) : Holds n (factor E Y Z) (corr A B) := fun i j => by
  have h1 := hE i j
  have h2 := holds_mm hZ hY i j
  unfold factor
  generalize mm Z Y = P at h2 ⊢
  pointwise []
  rw [h1, h2, bits_half, bits_three, ← EReal.coe_mul, ← EReal.coe_sub, ← EReal.coe_mul, corr_eq]

/-- Two arrays hold the running matrices of image `n` after `k` steps from `B`. -/
def After (n : Fin 32) (B : Matrix (Fin 64) (Fin 64) ℝ) (k : ℕ) (Y Z : FVec Ideal S32x64x64 .f32) : Prop :=
  Holds n Y (newton B k).1 ∧ Holds n Z (newton B k).2

/-- One step of the reference is one step of the iteration. -/
theorem After.step {n : Fin 32} {E : FVec Ideal S1x64x64 .f32} {B : Matrix (Fin 64) (Fin 64) ℝ} {k : ℕ}
    {Y Z : FVec Ideal S32x64x64 .f32}
    (hE : ∀ i j : Fin 64, E (ix3 0 i j) = (((1 : Matrix (Fin 64) (Fin 64) ℝ) i j : ℝ) : EReal))
    (h : After n B k Y Z) : After n B (k + 1) (mm Y (factor E Y Z)) (mm (factor E Y Z) Z) :=
  ⟨holds_mm h.1 (holds_factor hE h.1 h.2), holds_mm (holds_factor hE h.1 h.2) h.2⟩

variable (V0 : Valuation τ sig (Elt Ideal))

/-- The reference's identity. -/
abbrev eye : FVec Ideal S1x64x64 .f32 := res_main_v35 V0

/-- It is the identity. -/
theorem eye_read (i j : Fin 64) : eye V0 (ix3 0 i j) = (((1 : Matrix (Fin 64) (Fin 64) ℝ) i j : ℝ) : EReal) := by
  unfold eye res_main_v35
  pointwise []
  rw [agree_host, Matrix.one_apply]

/-- The array the second running matrix starts from holds the identity. -/
theorem holds_one (n : Fin 32) : Holds n (res_main_v36 V0) 1 := fun i j => by
  have h := eye_read V0 i j
  unfold eye at h
  unfold res_main_v36
  generalize res_main_v35 V0 = E at h ⊢
  pointwise []
  exact h

/-- The second running array after ten steps. -/
abbrev final : FVec Ideal S32x64x64 .f32 := mm (res_main_v124 V0) (res_main_v117 V0)

/-- If the scaled covariance of image `n` is `B`, the last array holds its inverse root. -/
theorem final_holds {n : Fin 32} {B : Matrix (Fin 64) (Fin 64) ℝ} (h : Holds n (scaled V0) B) :
    Holds n (final V0) (invRoot B) := by
  have hE := eye_read V0
  have h0 : After n B 0 (res_main_v28 V0) (res_main_v36 V0) := ⟨h, holds_one V0 n⟩
  have h3 : After n B 3 (res_main_v62 V0) (res_main_v63 V0) := ((h0.step hE).step hE).step hE
  have h6 : After n B 6 (res_main_v89 V0) (res_main_v90 V0) := ((h3.step hE).step hE).step hE
  have h9 : After n B 9 (res_main_v116 V0) (res_main_v117 V0) := ((h6.step hE).step hE).step hE
  exact (h9.step hE).2

end Cert.Proof.Ref

end
-- ==== Proof.RefOut.lean ====
/-
  What the reference puts at each place of its result.
-/
module

public import proofs.«01_k».proof.Proof.RefNewton

@[expose] public section

set_option maxRecDepth 16384

noncomputable section

namespace Cert.Proof.Ref

open Idealize.ShloMosaic Idealize.ShloMosaic.TcCoe Idealize.SL.Sem
open Cert.ReferenceIdeal Cert.ReferenceIdeal.Gen Cert.ReferenceIdeal.Value

/-- The reference's result, from the weights, the last Newton array, the norms, the centred samples and the bias. -/
abbrev result (w : FVec Ideal S1x64x64 .f32) (Z : FVec Ideal S32x64x64 .f32) (N : FVec Ideal S32x1x1 .f32)
    (C : FVec Ideal S32x64x18432 .f32) (b : FVec Ideal S1x64x1 .f32) : FVec Ideal S32x512x48x48 .f32 :=
  shapeCast _ (transpose S32x8x64x48x48 [0,2,1,3,4] (shapeCast _ (addf (Host.dotGeneral dot_S32x64x64_S32x64x18432_S32x64x18432_2_1_1_2_0_0 none (transpose S32x64x64 [1,0,2] (Host.dotGeneral dot_S64x64_S32x64x64_S64x32x64_1_1_0_02_n_n none (shapeCast _ w shapeCasts_S1x64x64_S64x64) (Host.divf Z (broadcastInDim S32x64x64 ![0,1,2] bcast_S32x1x1_S32x64x64_0_1_2 (Host.sqrt N)))) transposes_S64x32x64_S32x64x64_1_0_2) C) (broadcastInDim S32x64x18432 ![0,1,2] bcast_S1x64x1_S32x64x18432_0_1_2 b)) shapeCasts_S32x64x18432_S32x64x8x48x48) transposes_S32x64x8x48x48_S32x8x64x48x48_0_2_1_3_4) shapeCasts_S32x8x64x48x48_S32x512x48x48

/-- A place of it. The scaled weights hold the map `A`; then the centred sample goes through `A` and the bias is added. -/
theorem result_read {w : FVec Ideal S1x64x64 .f32} {Z : FVec Ideal S32x64x64 .f32} {N : FVec Ideal S32x1x1 .f32}
    (C : FVec Ideal S32x64x18432 .f32) (b : FVec Ideal S1x64x1 .f32) {n : Fin 32} {W Y : Matrix (Fin 64) (Fin 64) ℝ} {r : ℝ}
    (hw : ∀ i j : Fin 64, w (ix3 0 i j) = (W i j : EReal)) (hZ : Holds n Z (invRoot Y))
    (hN : ∀ z : ℝ, Ideal.div (z : EReal) (Ideal.sqrt (N (ix3 n 0 0))) = ((z * r : ℝ) : EReal))
    (k : Fin 8) (g : Fin 64) (y x : Fin 48) :
    result w Z N C b (ix4 n ⟨k * 64 + g, by omega⟩ y x)
      = ∑ j, (mapOf W Y r g j : EReal) * C (ix3 n j (⟨k * 2304 + (y * 48 + x), by omega⟩ : Fin 18432)) + b (ix3 0 g 0) := by
  unfold Holds at hZ
  pointwise [result]
  simp only [hw, hZ, hN, ← EReal.coe_mul, coe_sum, mapOf, Nat.add_assoc]

variable (V0 : Valuation τ sig (Elt Ideal))

/-- The reference's result at every place. -/
theorem value_read {W Y : Matrix (Fin 64) (Fin 64) ℝ} {r : ℝ} {n : Fin 32}
    (hw : ∀ i j : Fin 64, V0 (Proc.devRef .tc main_arg1) (ix3 0 i j) = (W i j : EReal))
    (hY : ∀ i j, Ideal.div (rcov (image (imgs V0) n) i j) (rnorm (image (imgs V0) n)) = (Y i j : EReal))
    (hr : ∀ z : ℝ, Ideal.div (z : EReal) (Ideal.sqrt (rnorm (image (imgs V0) n))) = ((z * r : ℝ) : EReal))
    (k : Fin 8) (g : Fin 64) (y x : Fin 48) :
    result (V0 (Proc.devRef .tc main_arg1)) (final V0) (norms V0) (centred V0) (V0 (Proc.devRef .tc main_arg2))
        (ix4 n ⟨k * 64 + g, by omega⟩ y x)
      = ∑ j, (mapOf W Y r g j : EReal) * (image (imgs V0) n (k, ⟨y * 48 + x, by omega⟩) j - rmean (image (imgs V0) n) j)
        + V0 (Proc.devRef .tc main_arg2) (ix3 0 g 0) := by
  rw [result_read (centred V0) _ hw (final_holds V0 fun i j => (scaled_read V0 n i j).trans (hY i j))
    (fun z => by rw [norms_read, hr])]
  exact congrArg (· + _) (Finset.sum_congr rfl fun j _ => congrArg _ (centred_read V0 n j k ⟨y * 48 + x, by omega⟩))

end Cert.Proof.Ref

end
-- ==== Proof.Values.lean ====
/-
  The value claim: the kernel and the reference leave the same result.
-/
module

public import proofs.«01_k».proof.Proof.Weights
public import proofs.«01_k».proof.Proof.KernelResult
public import proofs.«01_k».proof.Proof.RefOut

@[expose] public section

set_option maxRecDepth 16384

noncomputable section

namespace Cert.Proof

open Idealize.ShloMosaic Idealize.ShloMosaic.TcCoe Idealize.SL.Sem

/-- Over equal arguments with real weights the two results are equal at every place. The iteration starts from the same
    matrix in both programs, so it ends at the same one; the two ways to whiten a sample by it agree. -/
theorem results_eq {m : (ℓ : Loc KernelIdeal.nD KernelIdeal.τ KernelIdeal.sig) → Buf (Elt Ideal) ℓ} {c : Dev KernelIdeal.nD}
    {V0 : Valuation ReferenceIdeal.τ ReferenceIdeal.sig (Elt Ideal)} {W : Matrix (Fin 64) (Fin 64) ℝ}
    (hw : ∀ i j : Fin 64, argW m c (ix3 0 i j) = (W i j : EReal))
    (e0 : V0 (Proc.devRef .tc ReferenceIdeal.main_arg0) = argX m c) (e1 : V0 (Proc.devRef .tc ReferenceIdeal.main_arg1) = argW m c)
    (e2 : V0 (Proc.devRef .tc ReferenceIdeal.main_arg2) = argB m c) :
    Ref.result (V0 (Proc.devRef .tc ReferenceIdeal.main_arg1)) (Ref.final V0) (Ref.norms V0) (Ref.centred V0)
        (V0 (Proc.devRef .tc ReferenceIdeal.main_arg2))
      = unstack ((KernelIdeal.Gen.dats m 0 c).arrAt 3 (KernelIdeal.cfgs 0).N) := by
  choose Y r hk hr hs hz h0 using fun n => stats (image (argX m c) n)
  rw [array_read m c (fun n => ⟨hk n, hs n⟩) hw]
  have himg (n : Fin 32) : Ref.image (Ref.imgs V0) n = image (argX m c) n := by unfold Ref.imgs; rw [e0]; rfl
  refine funext fun (i : KernelIdeal.S32x512x48x48.Idx) => ?_
  idx_vars i
  obtain ⟨k, g, rfl⟩ : ∃ (k : Fin 8) (g : Fin 64), i1 = ⟨k * 64 + g, by omega⟩ :=
    ⟨⟨i1 / 64, by omega⟩, ⟨i1 % 64, by omega⟩, Fin.ext (by dsimp only; omega)⟩
  have h0' : mapOf W (Y i0) (r i0) = 0 ∨ ∃ a : Place → Fin 64 → ℝ, image (argX m c) i0 = fun s g => (a s g : EReal) :=
    (h0 i0).imp (fun h => by ext i j; simp [mapOf, h]) id
  rw [Ref.value_read V0 (fun i j => by rw [e1]; exact hw i j) (by rw [himg]; exact hr i0) (by rw [himg]; exact hz i0) k g i2 i3]
  refine Eq.trans ?_ (unstack_read _ i0 _ i2 i3).symm
  rw [stack_read, stored, himg, whiten _ _ _ h0', e2]

/-- The value claim: over the extended reals, on finite weights, the kernel and the reference leave equal results. -/
theorem algebraic [Cert.Pre_weights_finite.Facts] : Cert.algebraic_KernelIdeal_ReferenceIdeal_pre_weights_finite := by
  intro m g m' g' hpre hagree
  choose W hW using weights_real m hpre
  exact ⟨_, kernel_run m g, (θ_run _ _ _).mono (fun r h c => ⟨(h c).1.trans
    (results_eq (V0 := StableHlo.launchContents m' c) (hW c) (hagree c).1 (hagree c).2.1 (hagree c).2.2), (h c).2⟩)
    (Cert.ReferenceIdeal.Value.run (F := Ideal) m' g')⟩

end Cert.Proof

end
-- ==== Proof.lean ====
/-
  The proof of `Cert.Claim`.
-/
module

public import proofs.«01_k».proof.Defs
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_weights_finite.Gen.facts,
    frame_p, frame_pi, frame_pi_pre, frame_ri, frame_ri_pre, preserves, algebraic⟩

end Cert.Proof

end
